-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DsaIn (m : (ℓ : Loc Cert.DsaIn.nD Cert.DsaIn.τ Cert.DsaIn.sig) → Buf (Elt Bits) ℓ) : Prop :=
  True

def Pre_DsaInIdeal (m : (ℓ : Loc Cert.DsaInIdeal.nD Cert.DsaInIdeal.τ Cert.DsaInIdeal.sig) → Buf (Elt Ideal) ℓ) : Prop :=
  True

def Pre_DsaInRefIdeal (m : (ℓ : Loc Cert.DsaInRefIdeal.nD Cert.DsaInRefIdeal.τ Cert.DsaInRefIdeal.sig) → Buf (Elt Ideal) ℓ) : Prop :=
  True

def Pre_NsaIn (m : (ℓ : Loc Cert.NsaIn.nD Cert.NsaIn.τ Cert.NsaIn.sig) → Buf (Elt Bits) ℓ) : Prop :=
  True

def Pre_NsaInIdeal (m : (ℓ : Loc Cert.NsaInIdeal.nD Cert.NsaInIdeal.τ Cert.NsaInIdeal.sig) → Buf (Elt Ideal) ℓ) : Prop :=
  True

def Pre_NsaInRefIdeal (m : (ℓ : Loc Cert.NsaInRefIdeal.nD Cert.NsaInRefIdeal.τ Cert.NsaInRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_DsaIn [hDsaIn : Cert.DsaIn.Facts] : Prop :=
  ∀ (m : (ℓ : Loc Cert.DsaIn.nD Cert.DsaIn.τ Cert.DsaIn.sig) → Buf (Elt Bits) ℓ) (g : Dev Cert.DsaIn.nD → PrngReg), Pre_DsaIn m →
    θ_run (Cert.DsaIn.defs (F := Bits)) (onTc (τ := Cert.DsaIn.τ) (Cert.DsaIn.main (F := Bits))) ⟨m, fun _ => 0, g⟩ (fun r => (∀ c : Dev Cert.DsaIn.nD,
      r.2.mem ((c.tc : Thread Cert.DsaIn.nD Cert.DsaIn.τ).loc Cert.DsaIn.main_arg0) = m ((c.tc : Thread Cert.DsaIn.nD Cert.DsaIn.τ).loc Cert.DsaIn.main_arg0)
      ∧ r.2.mem ((c.tc : Thread Cert.DsaIn.nD Cert.DsaIn.τ).loc Cert.DsaIn.main_arg1) = m ((c.tc : Thread Cert.DsaIn.nD Cert.DsaIn.τ).loc Cert.DsaIn.main_arg1)
      ∧ r.2.mem ((c.tc : Thread Cert.DsaIn.nD Cert.DsaIn.τ).loc Cert.DsaIn.main_arg2) = m ((c.tc : Thread Cert.DsaIn.nD Cert.DsaIn.τ).loc Cert.DsaIn.main_arg2)
      ∧ r.2.mem ((c.tc : Thread Cert.DsaIn.nD Cert.DsaIn.τ).loc Cert.DsaIn.main_arg3) = m ((c.tc : Thread Cert.DsaIn.nD Cert.DsaIn.τ).loc Cert.DsaIn.main_arg3)
      ∧ r.2.mem ((c.tc : Thread Cert.DsaIn.nD Cert.DsaIn.τ).loc Cert.DsaIn.main_arg4) = m ((c.tc : Thread Cert.DsaIn.nD Cert.DsaIn.τ).loc Cert.DsaIn.main_arg4)
      ∧ r.2.mem ((c.tc : Thread Cert.DsaIn.nD Cert.DsaIn.τ).loc Cert.DsaIn.main_arg5) = m ((c.tc : Thread Cert.DsaIn.nD Cert.DsaIn.τ).loc Cert.DsaIn.main_arg5))
      ∧ r.2.sem = fun _ => 0)

def quiescent_DsaInIdeal [hDsaInIdeal : Cert.DsaInIdeal.Facts] : Prop :=
  ∀ (m : (ℓ : Loc Cert.DsaInIdeal.nD Cert.DsaInIdeal.τ Cert.DsaInIdeal.sig) → Buf (Elt Ideal) ℓ) (g : Dev Cert.DsaInIdeal.nD → PrngReg), Pre_DsaInIdeal m →
    θ_run (Cert.DsaInIdeal.defs (F := Ideal)) (onTc (τ := Cert.DsaInIdeal.τ) (Cert.DsaInIdeal.main (F := Ideal))) ⟨m, fun _ => 0, g⟩ (fun r => (∀ c : Dev Cert.DsaInIdeal.nD,
      r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
      ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1)
      ∧ r.2.mem ((c.tc : Thread Cert.DsaInIdeal.nD Cert.DsaInIdeal.τ).loc Cert.DsaInIdeal.main_arg2) = m ((c.tc : Thread Cert.DsaInIdeal.nD Cert.DsaInIdeal.τ).loc Cert.DsaInIdeal.main_arg2)
      ∧ r.2.mem ((c.tc : Thread Cert.DsaInIdeal.nD Cert.DsaInIdeal.τ).loc Cert.DsaInIdeal.main_arg3) = m ((c.tc : Thread Cert.DsaInIdeal.nD Cert.DsaInIdeal.τ).loc Cert.DsaInIdeal.main_arg3)
      ∧ r.2.mem ((c.tc : Thread Cert.DsaInIdeal.nD Cert.DsaInIdeal.τ).loc Cert.DsaInIdeal.main_arg4) = m ((c.tc : Thread Cert.DsaInIdeal.nD Cert.DsaInIdeal.τ).loc Cert.DsaInIdeal.main_arg4)
      ∧ r.2.mem ((c.tc : Thread Cert.DsaInIdeal.nD Cert.DsaInIdeal.τ).loc Cert.DsaInIdeal.main_arg5) = m ((c.tc : Thread Cert.DsaInIdeal.nD Cert.DsaInIdeal.τ).loc Cert.DsaInIdeal.main_arg5))
      ∧ r.2.sem = fun _ => 0)

def quiescent_DsaInRefIdeal [hDsaInRefIdeal : Cert.DsaInRefIdeal.Facts] : Prop :=
  ∀ (m : (ℓ : Loc Cert.DsaInRefIdeal.nD Cert.DsaInRefIdeal.τ Cert.DsaInRefIdeal.sig) → Buf (Elt Ideal) ℓ) (g : Dev Cert.DsaInRefIdeal.nD → PrngReg), Pre_DsaInRefIdeal m →
    θ_run (Cert.DsaInRefIdeal.defs (F := Ideal)) (onTc (τ := Cert.DsaInRefIdeal.τ) (Cert.DsaInRefIdeal.main (F := Ideal))) ⟨m, fun _ => 0, g⟩ (fun r => (∀ c : Dev Cert.DsaInRefIdeal.nD,
      r.2.mem ((c.tc : Thread Cert.DsaInRefIdeal.nD Cert.DsaInRefIdeal.τ).loc Cert.DsaInRefIdeal.main_arg0) = m ((c.tc : Thread Cert.DsaInRefIdeal.nD Cert.DsaInRefIdeal.τ).loc Cert.DsaInRefIdeal.main_arg0)
      ∧ r.2.mem ((c.tc : Thread Cert.DsaInRefIdeal.nD Cert.DsaInRefIdeal.τ).loc Cert.DsaInRefIdeal.main_arg1) = m ((c.tc : Thread Cert.DsaInRefIdeal.nD Cert.DsaInRefIdeal.τ).loc Cert.DsaInRefIdeal.main_arg1)
      ∧ r.2.mem ((c.tc : Thread Cert.DsaInRefIdeal.nD Cert.DsaInRefIdeal.τ).loc Cert.DsaInRefIdeal.main_arg2) = m ((c.tc : Thread Cert.DsaInRefIdeal.nD Cert.DsaInRefIdeal.τ).loc Cert.DsaInRefIdeal.main_arg2)
      ∧ r.2.mem ((c.tc : Thread Cert.DsaInRefIdeal.nD Cert.DsaInRefIdeal.τ).loc Cert.DsaInRefIdeal.main_arg3) = m ((c.tc : Thread Cert.DsaInRefIdeal.nD Cert.DsaInRefIdeal.τ).loc Cert.DsaInRefIdeal.main_arg3)
      ∧ r.2.mem ((c.tc : Thread Cert.DsaInRefIdeal.nD Cert.DsaInRefIdeal.τ).loc Cert.DsaInRefIdeal.main_arg4) = m ((c.tc : Thread Cert.DsaInRefIdeal.nD Cert.DsaInRefIdeal.τ).loc Cert.DsaInRefIdeal.main_arg4)
      ∧ r.2.mem ((c.tc : Thread Cert.DsaInRefIdeal.nD Cert.DsaInRefIdeal.τ).loc Cert.DsaInRefIdeal.main_arg5) = m ((c.tc : Thread Cert.DsaInRefIdeal.nD Cert.DsaInRefIdeal.τ).loc Cert.DsaInRefIdeal.main_arg5))
      ∧ r.2.sem = fun _ => 0)

def quiescent_NsaIn [hNsaIn : Cert.NsaIn.Facts] : Prop :=
  ∀ (m : (ℓ : Loc Cert.NsaIn.nD Cert.NsaIn.τ Cert.NsaIn.sig) → Buf (Elt Bits) ℓ) (g : Dev Cert.NsaIn.nD → PrngReg), Pre_NsaIn m →
    θ_run (Cert.NsaIn.defs (F := Bits)) (onTc (τ := Cert.NsaIn.τ) (Cert.NsaIn.main (F := Bits))) ⟨m, fun _ => 0, g⟩ (fun r => (∀ c : Dev Cert.NsaIn.nD,
      r.2.mem ((c.tc : Thread Cert.NsaIn.nD Cert.NsaIn.τ).loc Cert.NsaIn.main_arg0) = m ((c.tc : Thread Cert.NsaIn.nD Cert.NsaIn.τ).loc Cert.NsaIn.main_arg0)
      ∧ r.2.mem ((c.tc : Thread Cert.NsaIn.nD Cert.NsaIn.τ).loc Cert.NsaIn.main_arg1) = m ((c.tc : Thread Cert.NsaIn.nD Cert.NsaIn.τ).loc Cert.NsaIn.main_arg1)
      ∧ r.2.mem ((c.tc : Thread Cert.NsaIn.nD Cert.NsaIn.τ).loc Cert.NsaIn.main_arg2) = m ((c.tc : Thread Cert.NsaIn.nD Cert.NsaIn.τ).loc Cert.NsaIn.main_arg2))
      ∧ r.2.sem = fun _ => 0)

def quiescent_NsaInIdeal [hNsaInIdeal : Cert.NsaInIdeal.Facts] : Prop :=
  ∀ (m : (ℓ : Loc Cert.NsaInIdeal.nD Cert.NsaInIdeal.τ Cert.NsaInIdeal.sig) → Buf (Elt Ideal) ℓ) (g : Dev Cert.NsaInIdeal.nD → PrngReg), Pre_NsaInIdeal m →
    θ_run (Cert.NsaInIdeal.defs (F := Ideal)) (onTc (τ := Cert.NsaInIdeal.τ) (Cert.NsaInIdeal.main (F := Ideal))) ⟨m, fun _ => 0, g⟩ (fun r => (∀ c : Dev Cert.NsaInIdeal.nD,
      r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
      ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
      ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2))
      ∧ r.2.sem = fun _ => 0)

def quiescent_NsaInRefIdeal [hNsaInRefIdeal : Cert.NsaInRefIdeal.Facts] : Prop :=
  ∀ (m : (ℓ : Loc Cert.NsaInRefIdeal.nD Cert.NsaInRefIdeal.τ Cert.NsaInRefIdeal.sig) → Buf (Elt Ideal) ℓ) (g : Dev Cert.NsaInRefIdeal.nD → PrngReg), Pre_NsaInRefIdeal m →
    θ_run (Cert.NsaInRefIdeal.defs (F := Ideal)) (onTc (τ := Cert.NsaInRefIdeal.τ) (Cert.NsaInRefIdeal.main (F := Ideal))) ⟨m, fun _ => 0, g⟩ (fun r => (∀ c : Dev Cert.NsaInRefIdeal.nD,
      r.2.mem ((c.tc : Thread Cert.NsaInRefIdeal.nD Cert.NsaInRefIdeal.τ).loc Cert.NsaInRefIdeal.main_arg0) = m ((c.tc : Thread Cert.NsaInRefIdeal.nD Cert.NsaInRefIdeal.τ).loc Cert.NsaInRefIdeal.main_arg0)
      ∧ r.2.mem ((c.tc : Thread Cert.NsaInRefIdeal.nD Cert.NsaInRefIdeal.τ).loc Cert.NsaInRefIdeal.main_arg1) = m ((c.tc : Thread Cert.NsaInRefIdeal.nD Cert.NsaInRefIdeal.τ).loc Cert.NsaInRefIdeal.main_arg1)
      ∧ r.2.mem ((c.tc : Thread Cert.NsaInRefIdeal.nD Cert.NsaInRefIdeal.τ).loc Cert.NsaInRefIdeal.main_arg2) = m ((c.tc : Thread Cert.NsaInRefIdeal.nD Cert.NsaInRefIdeal.τ).loc Cert.NsaInRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v18) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_DsaIn_DsaInIdeal : Prop :=
  True

def algebraic_DsaInIdeal_DsaInRefIdeal [hDsaInIdeal : Cert.DsaInIdeal.Facts] [hDsaInRefIdeal : Cert.DsaInRefIdeal.Facts] : Prop :=
  ∀ (m : (ℓ : Loc Cert.DsaInIdeal.nD Cert.DsaInIdeal.τ Cert.DsaInIdeal.sig) → Buf (Elt Ideal) ℓ) (g : Dev Cert.DsaInIdeal.nD → PrngReg)
    (m' : (ℓ : Loc Cert.DsaInRefIdeal.nD Cert.DsaInRefIdeal.τ Cert.DsaInRefIdeal.sig) → Buf (Elt Ideal) ℓ) (g' : Dev Cert.DsaInRefIdeal.nD → PrngReg), Pre_DsaInIdeal m →
    (∀ c : Dev Cert.DsaInIdeal.nD,
      m' ((c.tc : Thread Cert.DsaInRefIdeal.nD Cert.DsaInRefIdeal.τ).loc Cert.DsaInRefIdeal.main_arg0) = m ((c.tc : Thread Cert.DsaInIdeal.nD Cert.DsaInIdeal.τ).loc Cert.DsaInIdeal.main_arg0)
      ∧ m' ((c.tc : Thread Cert.DsaInRefIdeal.nD Cert.DsaInRefIdeal.τ).loc Cert.DsaInRefIdeal.main_arg1) = m ((c.tc : Thread Cert.DsaInIdeal.nD Cert.DsaInIdeal.τ).loc Cert.DsaInIdeal.main_arg1)
      ∧ m' ((c.tc : Thread Cert.DsaInRefIdeal.nD Cert.DsaInRefIdeal.τ).loc Cert.DsaInRefIdeal.main_arg2) = m ((c.tc : Thread Cert.DsaInIdeal.nD Cert.DsaInIdeal.τ).loc Cert.DsaInIdeal.main_arg2)
      ∧ m' ((c.tc : Thread Cert.DsaInRefIdeal.nD Cert.DsaInRefIdeal.τ).loc Cert.DsaInRefIdeal.main_arg3) = m ((c.tc : Thread Cert.DsaInIdeal.nD Cert.DsaInIdeal.τ).loc Cert.DsaInIdeal.main_arg3)
      ∧ m' ((c.tc : Thread Cert.DsaInRefIdeal.nD Cert.DsaInRefIdeal.τ).loc Cert.DsaInRefIdeal.main_arg4) = m ((c.tc : Thread Cert.DsaInIdeal.nD Cert.DsaInIdeal.τ).loc Cert.DsaInIdeal.main_arg4)
      ∧ m' ((c.tc : Thread Cert.DsaInRefIdeal.nD Cert.DsaInRefIdeal.τ).loc Cert.DsaInRefIdeal.main_arg5) = m ((c.tc : Thread Cert.DsaInIdeal.nD Cert.DsaInIdeal.τ).loc Cert.DsaInIdeal.main_arg5)) →
    ∃ (v0 : (c : Dev Cert.DsaInIdeal.nD) → Buf (Elt Ideal) ((c.tc : Thread Cert.DsaInIdeal.nD Cert.DsaInIdeal.τ).loc Cert.DsaInIdeal.main_v32_0)) (v1 : (c : Dev Cert.DsaInIdeal.nD) → Buf (Elt Ideal) ((c.tc : Thread Cert.DsaInIdeal.nD Cert.DsaInIdeal.τ).loc Cert.DsaInIdeal.main_v32_1)) (v2 : (c : Dev Cert.DsaInIdeal.nD) → Buf (Elt Ideal) ((c.tc : Thread Cert.DsaInIdeal.nD Cert.DsaInIdeal.τ).loc Cert.DsaInIdeal.main_v32_2)) (v3 : (c : Dev Cert.DsaInIdeal.nD) → Buf (Elt Ideal) ((c.tc : Thread Cert.DsaInIdeal.nD Cert.DsaInIdeal.τ).loc Cert.DsaInIdeal.main_v32_3)) (v4 : (c : Dev Cert.DsaInIdeal.nD) → Buf (Elt Ideal) ((c.tc : Thread Cert.DsaInIdeal.nD Cert.DsaInIdeal.τ).loc Cert.DsaInIdeal.main_v32_4)),
      θ_run (Cert.DsaInIdeal.defs (F := Ideal)) (onTc (τ := Cert.DsaInIdeal.τ) (Cert.DsaInIdeal.main (F := Ideal))) ⟨m, fun _ => 0, g⟩ (fun r => ∀ c : Dev Cert.DsaInIdeal.nD,
          r.2.mem ((c.tc : Thread Cert.DsaInIdeal.nD Cert.DsaInIdeal.τ).loc Cert.DsaInIdeal.main_v32_0) = v0 c
          ∧ r.2.mem ((c.tc : Thread Cert.DsaInIdeal.nD Cert.DsaInIdeal.τ).loc Cert.DsaInIdeal.main_v32_1) = v1 c
          ∧ r.2.mem ((c.tc : Thread Cert.DsaInIdeal.nD Cert.DsaInIdeal.τ).loc Cert.DsaInIdeal.main_v32_2) = v2 c
          ∧ r.2.mem ((c.tc : Thread Cert.DsaInIdeal.nD Cert.DsaInIdeal.τ).loc Cert.DsaInIdeal.main_v32_3) = v3 c
          ∧ r.2.mem ((c.tc : Thread Cert.DsaInIdeal.nD Cert.DsaInIdeal.τ).loc Cert.DsaInIdeal.main_v32_4) = v4 c
          ∧ r.2.mem ((c.tc : Thread Cert.DsaInIdeal.nD Cert.DsaInIdeal.τ).loc Cert.DsaInIdeal.main_arg0) = m ((c.tc : Thread Cert.DsaInIdeal.nD Cert.DsaInIdeal.τ).loc Cert.DsaInIdeal.main_arg0)
          ∧ r.2.mem ((c.tc : Thread Cert.DsaInIdeal.nD Cert.DsaInIdeal.τ).loc Cert.DsaInIdeal.main_arg1) = m ((c.tc : Thread Cert.DsaInIdeal.nD Cert.DsaInIdeal.τ).loc Cert.DsaInIdeal.main_arg1)
          ∧ r.2.mem ((c.tc : Thread Cert.DsaInIdeal.nD Cert.DsaInIdeal.τ).loc Cert.DsaInIdeal.main_arg2) = m ((c.tc : Thread Cert.DsaInIdeal.nD Cert.DsaInIdeal.τ).loc Cert.DsaInIdeal.main_arg2)
          ∧ r.2.mem ((c.tc : Thread Cert.DsaInIdeal.nD Cert.DsaInIdeal.τ).loc Cert.DsaInIdeal.main_arg3) = m ((c.tc : Thread Cert.DsaInIdeal.nD Cert.DsaInIdeal.τ).loc Cert.DsaInIdeal.main_arg3)
          ∧ r.2.mem ((c.tc : Thread Cert.DsaInIdeal.nD Cert.DsaInIdeal.τ).loc Cert.DsaInIdeal.main_arg4) = m ((c.tc : Thread Cert.DsaInIdeal.nD Cert.DsaInIdeal.τ).loc Cert.DsaInIdeal.main_arg4)
          ∧ r.2.mem ((c.tc : Thread Cert.DsaInIdeal.nD Cert.DsaInIdeal.τ).loc Cert.DsaInIdeal.main_arg5) = m ((c.tc : Thread Cert.DsaInIdeal.nD Cert.DsaInIdeal.τ).loc Cert.DsaInIdeal.main_arg5))
      ∧ θ_run (Cert.DsaInRefIdeal.defs (F := Ideal)) (onTc (τ := Cert.DsaInRefIdeal.τ) (Cert.DsaInRefIdeal.main (F := Ideal))) ⟨m', fun _ => 0, g'⟩ (fun r => ∀ c : Dev Cert.DsaInRefIdeal.nD,
          r.2.mem ((c.tc : Thread Cert.DsaInRefIdeal.nD Cert.DsaInRefIdeal.τ).loc Cert.DsaInRefIdeal.main_v177) = v0 c
          ∧ r.2.mem ((c.tc : Thread Cert.DsaInRefIdeal.nD Cert.DsaInRefIdeal.τ).loc Cert.DsaInRefIdeal.main_v179) = v1 c
          ∧ r.2.mem ((c.tc : Thread Cert.DsaInRefIdeal.nD Cert.DsaInRefIdeal.τ).loc Cert.DsaInRefIdeal.main_v181) = v2 c
          ∧ r.2.mem ((c.tc : Thread Cert.DsaInRefIdeal.nD Cert.DsaInRefIdeal.τ).loc Cert.DsaInRefIdeal.main_v183) = v3 c
          ∧ r.2.mem ((c.tc : Thread Cert.DsaInRefIdeal.nD Cert.DsaInRefIdeal.τ).loc Cert.DsaInRefIdeal.main_v184) = v4 c
          ∧ r.2.mem ((c.tc : Thread Cert.DsaInRefIdeal.nD Cert.DsaInRefIdeal.τ).loc Cert.DsaInRefIdeal.main_arg0) = m' ((c.tc : Thread Cert.DsaInRefIdeal.nD Cert.DsaInRefIdeal.τ).loc Cert.DsaInRefIdeal.main_arg0)
          ∧ r.2.mem ((c.tc : Thread Cert.DsaInRefIdeal.nD Cert.DsaInRefIdeal.τ).loc Cert.DsaInRefIdeal.main_arg1) = m' ((c.tc : Thread Cert.DsaInRefIdeal.nD Cert.DsaInRefIdeal.τ).loc Cert.DsaInRefIdeal.main_arg1)
          ∧ r.2.mem ((c.tc : Thread Cert.DsaInRefIdeal.nD Cert.DsaInRefIdeal.τ).loc Cert.DsaInRefIdeal.main_arg2) = m' ((c.tc : Thread Cert.DsaInRefIdeal.nD Cert.DsaInRefIdeal.τ).loc Cert.DsaInRefIdeal.main_arg2)
          ∧ r.2.mem ((c.tc : Thread Cert.DsaInRefIdeal.nD Cert.DsaInRefIdeal.τ).loc Cert.DsaInRefIdeal.main_arg3) = m' ((c.tc : Thread Cert.DsaInRefIdeal.nD Cert.DsaInRefIdeal.τ).loc Cert.DsaInRefIdeal.main_arg3)
          ∧ r.2.mem ((c.tc : Thread Cert.DsaInRefIdeal.nD Cert.DsaInRefIdeal.τ).loc Cert.DsaInRefIdeal.main_arg4) = m' ((c.tc : Thread Cert.DsaInRefIdeal.nD Cert.DsaInRefIdeal.τ).loc Cert.DsaInRefIdeal.main_arg4)
          ∧ r.2.mem ((c.tc : Thread Cert.DsaInRefIdeal.nD Cert.DsaInRefIdeal.τ).loc Cert.DsaInRefIdeal.main_arg5) = m' ((c.tc : Thread Cert.DsaInRefIdeal.nD Cert.DsaInRefIdeal.τ).loc Cert.DsaInRefIdeal.main_arg5))

def preserves_NsaIn_NsaInIdeal : Prop :=
  True

def algebraic_NsaInIdeal_NsaInRefIdeal [hNsaInIdeal : Cert.NsaInIdeal.Facts] [hNsaInRefIdeal : Cert.NsaInRefIdeal.Facts] : Prop :=
  ∀ (m : (ℓ : Loc Cert.NsaInIdeal.nD Cert.NsaInIdeal.τ Cert.NsaInIdeal.sig) → Buf (Elt Ideal) ℓ) (g : Dev Cert.NsaInIdeal.nD → PrngReg)
    (m' : (ℓ : Loc Cert.NsaInRefIdeal.nD Cert.NsaInRefIdeal.τ Cert.NsaInRefIdeal.sig) → Buf (Elt Ideal) ℓ) (g' : Dev Cert.NsaInRefIdeal.nD → PrngReg), Pre_NsaInIdeal m →
    (∀ c : Dev Cert.NsaInIdeal.nD,
      m' ((c.tc : Thread Cert.NsaInRefIdeal.nD Cert.NsaInRefIdeal.τ).loc Cert.NsaInRefIdeal.main_arg0) = m ((c.tc : Thread Cert.NsaInIdeal.nD Cert.NsaInIdeal.τ).loc Cert.NsaInIdeal.main_arg0)
      ∧ m' ((c.tc : Thread Cert.NsaInRefIdeal.nD Cert.NsaInRefIdeal.τ).loc Cert.NsaInRefIdeal.main_arg1) = m ((c.tc : Thread Cert.NsaInIdeal.nD Cert.NsaInIdeal.τ).loc Cert.NsaInIdeal.main_arg1)
      ∧ m' ((c.tc : Thread Cert.NsaInRefIdeal.nD Cert.NsaInRefIdeal.τ).loc Cert.NsaInRefIdeal.main_arg2) = m ((c.tc : Thread Cert.NsaInIdeal.nD Cert.NsaInIdeal.τ).loc Cert.NsaInIdeal.main_arg2)) →
    ∃ (v0 : (c : Dev Cert.NsaInIdeal.nD) → Buf (Elt Ideal) ((c.tc : Thread Cert.NsaInIdeal.nD Cert.NsaInIdeal.τ).loc Cert.NsaInIdeal.main_v29_0)) (v1 : (c : Dev Cert.NsaInIdeal.nD) → Buf (Elt Ideal) ((c.tc : Thread Cert.NsaInIdeal.nD Cert.NsaInIdeal.τ).loc Cert.NsaInIdeal.main_v29_1)) (v2 : (c : Dev Cert.NsaInIdeal.nD) → Buf (Elt Ideal) ((c.tc : Thread Cert.NsaInIdeal.nD Cert.NsaInIdeal.τ).loc Cert.NsaInIdeal.main_v29_2)) (v3 : (c : Dev Cert.NsaInIdeal.nD) → Buf (Elt Ideal) ((c.tc : Thread Cert.NsaInIdeal.nD Cert.NsaInIdeal.τ).loc Cert.NsaInIdeal.main_v29_3)) (v4 : (c : Dev Cert.NsaInIdeal.nD) → Buf (Elt Ideal) ((c.tc : Thread Cert.NsaInIdeal.nD Cert.NsaInIdeal.τ).loc Cert.NsaInIdeal.main_v29_4)),
      θ_run (Cert.NsaInIdeal.defs (F := Ideal)) (onTc (τ := Cert.NsaInIdeal.τ) (Cert.NsaInIdeal.main (F := Ideal))) ⟨m, fun _ => 0, g⟩ (fun r => ∀ c : Dev Cert.NsaInIdeal.nD,
          r.2.mem ((c.tc : Thread Cert.NsaInIdeal.nD Cert.NsaInIdeal.τ).loc Cert.NsaInIdeal.main_v29_0) = v0 c
          ∧ r.2.mem ((c.tc : Thread Cert.NsaInIdeal.nD Cert.NsaInIdeal.τ).loc Cert.NsaInIdeal.main_v29_1) = v1 c
          ∧ r.2.mem ((c.tc : Thread Cert.NsaInIdeal.nD Cert.NsaInIdeal.τ).loc Cert.NsaInIdeal.main_v29_2) = v2 c
          ∧ r.2.mem ((c.tc : Thread Cert.NsaInIdeal.nD Cert.NsaInIdeal.τ).loc Cert.NsaInIdeal.main_v29_3) = v3 c
          ∧ r.2.mem ((c.tc : Thread Cert.NsaInIdeal.nD Cert.NsaInIdeal.τ).loc Cert.NsaInIdeal.main_v29_4) = v4 c
          ∧ r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
          ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
          ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2))
      ∧ θ_run (Cert.NsaInRefIdeal.defs (F := Ideal)) (onTc (τ := Cert.NsaInRefIdeal.τ) (Cert.NsaInRefIdeal.main (F := Ideal))) ⟨m', fun _ => 0, g'⟩ (fun r => ∀ c : Dev Cert.NsaInRefIdeal.nD,
          r.2.mem ((c.tc : Thread Cert.NsaInRefIdeal.nD Cert.NsaInRefIdeal.τ).loc Cert.NsaInRefIdeal.main_v144) = v0 c
          ∧ r.2.mem ((c.tc : Thread Cert.NsaInRefIdeal.nD Cert.NsaInRefIdeal.τ).loc Cert.NsaInRefIdeal.main_v146) = v1 c
          ∧ r.2.mem ((c.tc : Thread Cert.NsaInRefIdeal.nD Cert.NsaInRefIdeal.τ).loc Cert.NsaInRefIdeal.main_v147) = v2 c
          ∧ r.2.mem ((c.tc : Thread Cert.NsaInRefIdeal.nD Cert.NsaInRefIdeal.τ).loc Cert.NsaInRefIdeal.main_v148) = v3 c
          ∧ r.2.mem ((c.tc : Thread Cert.NsaInRefIdeal.nD Cert.NsaInRefIdeal.τ).loc Cert.NsaInRefIdeal.main_v149) = v4 c
          ∧ r.2.mem ((c.tc : Thread Cert.NsaInRefIdeal.nD Cert.NsaInRefIdeal.τ).loc Cert.NsaInRefIdeal.main_arg0) = m' ((c.tc : Thread Cert.NsaInRefIdeal.nD Cert.NsaInRefIdeal.τ).loc Cert.NsaInRefIdeal.main_arg0)
          ∧ r.2.mem ((c.tc : Thread Cert.NsaInRefIdeal.nD Cert.NsaInRefIdeal.τ).loc Cert.NsaInRefIdeal.main_arg1) = m' ((c.tc : Thread Cert.NsaInRefIdeal.nD Cert.NsaInRefIdeal.τ).loc Cert.NsaInRefIdeal.main_arg1)
          ∧ r.2.mem ((c.tc : Thread Cert.NsaInRefIdeal.nD Cert.NsaInRefIdeal.τ).loc Cert.NsaInRefIdeal.main_arg2) = m' ((c.tc : Thread Cert.NsaInRefIdeal.nD Cert.NsaInRefIdeal.τ).loc Cert.NsaInRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)
      ∧ m' ((c.tc : Thread Cert.CompressRefIdeal.nD Cert.CompressRefIdeal.τ).loc Cert.CompressRefIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v68)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v68) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v93) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m' ((c.tc : Thread Cert.CompressRefIdeal.nD Cert.CompressRefIdeal.τ).loc Cert.CompressRefIdeal.main_arg7))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutRefIdeal : Cert.OutRefIdeal.Facts) (hDsaIn : Cert.DsaIn.Facts) (hDsaInIdeal : Cert.DsaInIdeal.Facts) (hDsaInRefIdeal : Cert.DsaInRefIdeal.Facts) (hNsaIn : Cert.NsaIn.Facts) (hNsaInIdeal : Cert.NsaInIdeal.Facts) (hNsaInRefIdeal : Cert.NsaInRefIdeal.Facts) (hCompress : Cert.Compress.Facts) (hCompressIdeal : Cert.CompressIdeal.Facts) (hCompressRefIdeal : Cert.CompressRefIdeal.Facts),
    quiescent_Kernel (hKernel := hKernel)
    ∧ quiescent_KernelIdeal (hKernelIdeal := hKernelIdeal)
    ∧ quiescent_ReferenceIdeal (hReferenceIdeal := hReferenceIdeal)
    ∧ quiescent_Out (hOut := hOut)
    ∧ quiescent_OutIdeal (hOutIdeal := hOutIdeal)
    ∧ quiescent_OutRefIdeal (hOutRefIdeal := hOutRefIdeal)
    ∧ quiescent_DsaIn (hDsaIn := hDsaIn)
    ∧ quiescent_DsaInIdeal (hDsaInIdeal := hDsaInIdeal)
    ∧ quiescent_DsaInRefIdeal (hDsaInRefIdeal := hDsaInRefIdeal)
    ∧ quiescent_NsaIn (hNsaIn := hNsaIn)
    ∧ quiescent_NsaInIdeal (hNsaInIdeal := hNsaInIdeal)
    ∧ quiescent_NsaInRefIdeal (hNsaInRefIdeal := hNsaInRefIdeal)
    ∧ quiescent_Compress (hCompress := hCompress)
    ∧ quiescent_CompressIdeal (hCompressIdeal := hCompressIdeal)
    ∧ quiescent_CompressRefIdeal (hCompressRefIdeal := hCompressRefIdeal)
    ∧ preserves_Kernel_KernelIdeal
    ∧ algebraic_KernelIdeal_ReferenceIdeal (hKernelIdeal := hKernelIdeal) (hReferenceIdeal := hReferenceIdeal)
    ∧ preserves_Out_OutIdeal
    ∧ algebraic_OutIdeal_OutRefIdeal (hOutIdeal := hOutIdeal) (hOutRefIdeal := hOutRefIdeal)
    ∧ preserves_DsaIn_DsaInIdeal
    ∧ algebraic_DsaInIdeal_DsaInRefIdeal (hDsaInIdeal := hDsaInIdeal) (hDsaInRefIdeal := hDsaInRefIdeal)
    ∧ preserves_NsaIn_NsaInIdeal
    ∧ algebraic_NsaInIdeal_NsaInRefIdeal (hNsaInIdeal := hNsaInIdeal) (hNsaInRefIdeal := hNsaInRefIdeal)
    ∧ preserves_Compress_CompressIdeal
    ∧ algebraic_CompressIdeal_CompressRefIdeal (hCompressIdeal := hCompressIdeal) (hCompressRefIdeal := hCompressRefIdeal)
-- ==== Kernel.lean ====
abbrev S16x2048x1024 : Shape := ⟨3, ![16, 2048, 1024]⟩
abbrev S4x1024 : Shape := ⟨2, ![4, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S4x1x1024 : Shape := ⟨3, ![4, 1, 1024]⟩
abbrev S1x1x1024 : Shape := ⟨3, ![1, 1, 1024]⟩
abbrev S1x1024 : Shape := ⟨2, ![1, 1024]⟩
abbrev S1x5632 : Shape := ⟨2, ![1, 5632]⟩
abbrev S512x1024 : Shape := ⟨2, ![512, 1024]⟩
abbrev S16x1024 : Shape := ⟨2, ![16, 1024]⟩
abbrev S528x1024 : Shape := ⟨2, ![528, 1024]⟩
abbrev S4x528x256 : Shape := ⟨3, ![4, 528, 256]⟩
abbrev S512x2816 : Shape := ⟨2, ![512, 2816]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1024x256 : Shape := ⟨2, ![1024, 256]⟩
abbrev S528x256 : Shape := ⟨2, ![528, 256]⟩
abbrev S1x528x256 : Shape := ⟨3, ![1, 528, 256]⟩
abbrev S3x256 : Shape := ⟨2, ![3, 256]⟩
abbrev S1x256 : Shape := ⟨2, ![1, 256]⟩
abbrev S512x256 : Shape := ⟨2, ![512, 256]⟩

abbrev nBuf : Space → Nat
  | .hbm => 16
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S32768x1024, .f32⟩
  | .hbm, ⟨7, _⟩ => ⟨S4x1x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S1024x5632, .bf16⟩
  | .hbm, ⟨13, _⟩ => ⟨S1x5632, .f32⟩
  | .hbm, ⟨14, _⟩ => ⟨S2816x1024, .bf16⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | .local _ .vmem, ⟨12, _⟩ => ⟨S528x1024, .bf16⟩
  | .local _ .vmem, ⟨13, _⟩ => ⟨S4x528x256, .f32⟩
  | .local _ .vmem, ⟨14, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x2048x1024 : Shape := ⟨3, ![16, 2048, 1024]⟩
abbrev S4x1024 : Shape := ⟨2, ![4, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x5632, .f32⟩
  | .hbm, ⟨25, _⟩ => ⟨S_, .i32⟩
  | .hbm, ⟨26, _⟩ => ⟨S_, .f32⟩
  | .hbm, ⟨27, _⟩ => ⟨S16x2050x5632, .f32⟩
  | .hbm, ⟨28, _⟩ => ⟨S16x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S16x2048x5632, .f32⟩
  | .hbm, ⟨33, _⟩ => ⟨S16x2048x5632, .f32⟩
  | .hbm, ⟨34, _⟩ => ⟨S16x2048x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S16x2048x5632, .f32⟩
  | .hbm, ⟨39, _⟩ => ⟨S16x2048x5632, .f32⟩
  | .hbm, ⟨40, _⟩ => ⟨S16x2048x5632, .f32⟩
  | .hbm, ⟨41, _⟩ => ⟨S16x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S16x2048x5632, .f32⟩
  | .hbm, ⟨46, _⟩ => ⟨S16x2048x5632, .f32⟩
  | .hbm, ⟨47, _⟩ => ⟨S16x2048x5632, .f32⟩
  | .hbm, ⟨48, _⟩ => ⟨S1x1x5632, .f32⟩
  | .hbm, ⟨49, _⟩ => ⟨S16x2048x5632, .f32⟩
  | .hbm, ⟨50, _⟩ => ⟨S16x2048x5632, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S16x2048x2816, .f32⟩
  | .hbm, ⟨59, _⟩ => ⟨S_, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S_, .f32⟩
  | .hbm, ⟨64, _⟩ => ⟨S16x2048x2816, .f32⟩
  | .hbm, ⟨65, _⟩ => ⟨S16x2048x2816, .f32⟩
  | .hbm, ⟨66, _⟩ => ⟨S_, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S16x2048x1024, .f32⟩
  | .hbm, ⟨72, _⟩ => ⟨S1x1024, .f32⟩
  | .hbm, ⟨73, _⟩ => ⟨S1024, .f32⟩
  | .hbm, ⟨74, _⟩ => ⟨S16x2048x1024, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x1, .f32⟩
  | .hbm, ⟨85, _⟩ => ⟨S16x2048x1024, .f32⟩
  | .hbm, ⟨86, _⟩ => ⟨S16x2048x1024, .f32⟩
  | .hbm, ⟨87, _⟩ => ⟨S1x1x1024, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Out.lean ====
abbrev S16x2048x1024 : Shape := ⟨3, ![16, 2048, 1024]⟩
abbrev S4x1024 : Shape := ⟨2, ![4, 1024]⟩
abbrev S1024x1024 : Shape := ⟨2, ![1024, 1024]⟩
abbrev S4x1x1024 : Shape := ⟨3, ![4, 1, 1024]⟩
abbrev S32768x1024 : Shape := ⟨2, ![32768, 1024]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S4x1024, .f32⟩
  | .hbm, ⟨3, _⟩ => ⟨S1024x1024, .f32⟩
  | .hbm, ⟨4, _⟩ => ⟨S4x1x1024, .f32⟩
  | .hbm, ⟨5, _⟩ => ⟨S32768x1024, .bf16⟩
  | .hbm, ⟨6, _⟩ => ⟨S1024x1024, .bf16⟩
  | .hbm, ⟨7, _⟩ => ⟨S32768x1024, .f32⟩
  | .hbm, ⟨8, _⟩ => ⟨S1x1x1024, .f32⟩
  | .hbm, ⟨9, _⟩ => ⟨S1x1024, .f32⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S16x2048x1024 : Shape := ⟨3, ![16, 2048, 1024]⟩
abbrev S4x1024 : Shape := ⟨2, ![4, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S4x1024, .f32⟩
  | .hbm, ⟨3, _⟩ => ⟨S1024x1024, .f32⟩
  | .hbm, ⟨4, _⟩ => ⟨S16x2048x1024, .f32⟩
  | .hbm, ⟨5, _⟩ => ⟨S16x2048x1024, .f32⟩
  | .hbm, ⟨6, _⟩ => ⟨S1x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S32768x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DsaIn.lean ====
abbrev S16x2048x1024 : Shape := ⟨3, ![16, 2048, 1024]⟩
abbrev S4x1024 : Shape := ⟨2, ![4, 1024]⟩
abbrev S1024x1864 : Shape := ⟨2, ![1024, 1864]⟩
abbrev S256 : Shape := ⟨1, ![256]⟩
abbrev S256x64 : Shape := ⟨2, ![256, 64]⟩
abbrev S4x1x1024 : Shape := ⟨3, ![4, 1, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S256x128 : Shape := ⟨2, ![256, 128]⟩
abbrev S32768x1024 : Shape := ⟨2, ![32768, 1024]⟩
abbrev S1x1x1024 : Shape := ⟨3, ![1, 1, 1024]⟩
abbrev S1x1024 : Shape := ⟨2, ![1, 1024]⟩
abbrev S1024x1920 : Shape := ⟨2, ![1024, 1920]⟩
abbrev S1x256 : Shape := ⟨2, ![1, 256]⟩
abbrev S32768x384 : Shape := ⟨2, ![32768, 384]⟩
abbrev S32768x512 : Shape := ⟨2, ![32768, 512]⟩
abbrev S32768x128 : Shape := ⟨2, ![32768, 128]⟩
abbrev S16x8x2048 : Shape := ⟨3, ![16, 8, 2048]⟩
abbrev S512x1024 : Shape := ⟨2, ![512, 1024]⟩
abbrev S512x128 : Shape := ⟨2, ![512, 128]⟩
abbrev S512x384 : Shape := ⟨2, ![512, 384]⟩
abbrev S512x512 : Shape := ⟨2, ![512, 512]⟩
abbrev S1x8x512 : Shape := ⟨3, ![1, 8, 512]⟩
abbrev S512 : Shape := ⟨1, ![512]⟩
abbrev S512x1 : Shape := ⟨2, ![512, 1]⟩
abbrev S512x1920 : Shape := ⟨2, ![512, 1920]⟩
abbrev S512x256 : Shape := ⟨2, ![512, 256]⟩
abbrev S128x512 : Shape := ⟨2, ![128, 512]⟩
abbrev S8x512 : Shape := ⟨2, ![8, 512]⟩

abbrev nBuf : Space → Nat
  | .hbm => 47
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S1024x1864, .f32⟩
  | .hbm, ⟨3, _⟩ => ⟨S256, .f32⟩
  | .hbm, ⟨4, _⟩ => ⟨S256x64, .f32⟩
  | .hbm, ⟨5, _⟩ => ⟨S256x64, .f32⟩
  | .hbm, ⟨6, _⟩ => ⟨S4x1x1024, .f32⟩
  | .hbm, ⟨7, _⟩ => ⟨S2048, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S1x2048x1x32, .f32⟩
  | .hbm, ⟨25, _⟩ => ⟨S1x2048x4x32, .f32⟩
  | .hbm, ⟨26, _⟩ => ⟨S2048x128, .f32⟩
  | .hbm, ⟨27, _⟩ => ⟨S2048x32, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S256x128, .f32⟩
  | .hbm, ⟨33, _⟩ => ⟨S256x128, .bf16⟩
  | .hbm, ⟨34, _⟩ => ⟨S32768x1024, .f32⟩
  | .hbm, ⟨35, _⟩ => ⟨S1x1x1024, .f32⟩
  | .hbm, ⟨36, _⟩ => ⟨S1x1024, .f32⟩
  | .hbm, ⟨37, _⟩ => ⟨S_, .i32⟩
  | .hbm, ⟨38, _⟩ => ⟨S_, .f32⟩
  | .hbm, ⟨39, _⟩ => ⟨S1024x1920, .f32⟩
  | .hbm, ⟨40, _⟩ => ⟨S1024x1920, .bf16⟩
  | .hbm, ⟨41, _⟩ => ⟨S1x256, .f32⟩
  | .hbm, ⟨42, _⟩ => ⟨S32768x1024, .bf16⟩
  | .hbm, ⟨43, _⟩ => ⟨S32768x384, .bf16⟩
  | .hbm, ⟨44, _⟩ => ⟨S32768x512, .bf16⟩
  | .hbm, ⟨45, _⟩ => ⟨S32768x128, .bf16⟩
  | .hbm, ⟨46, _⟩ => ⟨S16x8x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S1x256, .f32⟩
  | .local _ .vmem, ⟨5, _⟩ => ⟨S256x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x384, .bf16⟩
  | .local _ .vmem, ⟨13, _⟩ => ⟨S512x384, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S1x8x512, .f32⟩
  | .local _ .vmem, ⟨19, _⟩ => ⟨S1x8x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_call0_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DsaInRefIdeal.lean ====
abbrev S16x2048x1024 : Shape := ⟨3, ![16, 2048, 1024]⟩
abbrev S4x1024 : Shape := ⟨2, ![4, 1024]⟩
abbrev S1024x1864 : Shape := ⟨2, ![1024, 1864]⟩
abbrev S256 : Shape := ⟨1, ![256]⟩
abbrev S256x64 : Shape := ⟨2, ![256, 64]⟩
abbrev S2048 : Shape := ⟨1, ![2048]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1864 : Shape := ⟨3, ![16, 2048, 1864]⟩
abbrev S16x2048x256 : Shape := ⟨3, ![16, 2048, 256]⟩
abbrev S16x2048x512 : Shape := ⟨3, ![16, 2048, 512]⟩
abbrev S16x2048x64 : Shape := ⟨3, ![16, 2048, 64]⟩
abbrev S16x2048x8 : Shape := ⟨3, ![16, 2048, 8]⟩
abbrev S16x2048x16x64 : Shape := ⟨4, ![16, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x16x32 : Shape := ⟨4, ![16, 2048, 16, 32]⟩
abbrev S1x2048x1x32 : Shape := ⟨4, ![1, 2048, 1, 32]⟩
abbrev S1x1x256 : Shape := ⟨3, ![1, 1, 256]⟩
abbrev S16x2048x32 : Shape := ⟨3, ![16, 2048, 32]⟩
abbrev S1x2048x32 : Shape := ⟨3, ![1, 2048, 32]⟩
abbrev S16x2048x8x64 : Shape := ⟨4, ![16, 2048, 8, 64]⟩
abbrev S16x2048x8x32 : Shape := ⟨4, ![16, 2048, 8, 32]⟩
abbrev S16x2048x384 : Shape := ⟨3, ![16, 2048, 384]⟩
abbrev S16x2048x128 : Shape := ⟨3, ![16, 2048, 128]⟩
abbrev S32768x1024 : Shape := ⟨2, ![32768, 1024]⟩
abbrev S32768x384 : Shape := ⟨2, ![32768, 384]⟩
abbrev S32768x512 : Shape := ⟨2, ![32768, 512]⟩
abbrev S32768x128 : Shape := ⟨2, ![32768, 128]⟩
abbrev S16x8x2048 : Shape := ⟨3, ![16, 8, 2048]⟩

abbrev nBuf : Space → Nat
  | .hbm => 209
  | .vmem => 0
  | .smem => 0
  | _ => 0

abbrev hbmTy0_0 (i : Nat) : BufTy := match i % 128 with
  | 0 => ⟨S16x2048x1024, .f32⟩
  | 1 => ⟨S4x1024, .f32⟩
  | 2 => ⟨S1024x1864, .f32⟩
  | 3 => ⟨S256, .f32⟩
  | 4 => ⟨S256x64, .f32⟩
  | 5 => ⟨S256x64, .f32⟩
  | 6 => ⟨S2048, .i32⟩
  | 7 => ⟨S1x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x2048x1864, .f32⟩
  | 26 => ⟨S16x2048x1024, .f32⟩
  | 27 => ⟨S16x2048x256, .f32⟩
  | 28 => ⟨S16x2048x512, .f32⟩
  | 29 => ⟨S16x2048x64, .f32⟩
  | 30 => ⟨S16x2048x8, .f32⟩
  | 31 => ⟨S16x2048x16x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S2048, .f32⟩
  | 41 => ⟨S2048x1, .f32⟩
  | 42 => ⟨S1x32, .f32⟩
  | 43 => ⟨S2048x32, .f32⟩
  | 44 => ⟨S2048x32, .f32⟩
  | 45 => ⟨S2048x32, .f32⟩
  | 46 => ⟨S2048x32, .f32⟩
  | 47 => ⟨S2048x32, .f32⟩
  | 48 => ⟨S2048x1x32, .f32⟩
  | 49 => ⟨S2048x1x32, .f32⟩
  | 50 => ⟨S16x2048x16x32, .f32⟩
  | 51 => ⟨S16x2048x16x32, .f32⟩
  | 52 => ⟨S1x2048x1x32, .f32⟩
  | 53 => ⟨S16x2048x16x32, .f32⟩
  | 54 => ⟨S16x2048x16x32, .f32⟩
  | 55 => ⟨S1x2048x1x32, .f32⟩
  | 56 => ⟨S16x2048x16x32, .f32⟩
  | 57 => ⟨S16x2048x16x32, .f32⟩
  | 58 => ⟨S16x2048x16x32, .f32⟩
  | 59 => ⟨S1x2048x1x32, .f32⟩
  | 60 => ⟨S16x2048x16x32, .f32⟩
  | 61 => ⟨S16x2048x16x32, .f32⟩
  | 62 => ⟨S1x2048x1x32, .f32⟩
  | 63 => ⟨S16x2048x16x32, .f32⟩
  | 64 => ⟨S16x2048x16x32, .f32⟩
  | 65 => ⟨S16x2048x16x32, .f32⟩
  | 66 => ⟨S16x2048x16x64, .f32⟩
  | 67 => ⟨S_, .f32⟩
  | 68 => ⟨S16x2048x16x64, .f32⟩
  | 69 => ⟨S16x2048x16x64, .f32⟩
  | 70 => ⟨S16x2048x256, .f32⟩
  | 71 => ⟨S_, .f32⟩
  | 72 => ⟨S16x2048, .f32⟩
  | 73 => ⟨S16x2048x1, .f32⟩
  | 74 => ⟨S_, .f32⟩
  | 75 => ⟨S16x2048x1, .f32⟩
  | 76 => ⟨S16x2048x1, .f32⟩
  | 77 => ⟨S_, .f32⟩
  | 78 => ⟨S16x2048x1, .f32⟩
  | 79 => ⟨S16x2048x1, .f32⟩
  | 80 => ⟨S16x2048x1, .f32⟩
  | 81 => ⟨S16x2048x256, .f32⟩
  | 82 => ⟨S16x2048x256, .f32⟩
  | 83 => ⟨S1x1x256, .f32⟩
  | 84 => ⟨S16x2048x256, .f32⟩
  | 85 => ⟨S16x2048x256, .f32⟩
  | 86 => ⟨S16x2048x64, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S2048, .f32⟩
  | 96 => ⟨S2048x1, .f32⟩
  | 97 => ⟨S1x32, .f32⟩
  | 98 => ⟨S2048x32, .f32⟩
  | 99 => ⟨S2048x32, .f32⟩
  | 100 => ⟨S2048x32, .f32⟩
  | 101 => ⟨S2048x32, .f32⟩
  | 102 => ⟨S2048x32, .f32⟩
  | 103 => ⟨S16x2048x32, .f32⟩
  | 104 => ⟨S16x2048x32, .f32⟩
  | 105 => ⟨S1x2048x32, .f32⟩
  | 106 => ⟨S16x2048x32, .f32⟩
  | 107 => ⟨S16x2048x32, .f32⟩
  | 108 => ⟨S1x2048x32, .f32⟩
  | 109 => ⟨S16x2048x32, .f32⟩
  | 110 => ⟨S16x2048x32, .f32⟩
  | 111 => ⟨S16x2048x32, .f32⟩
  | 112 => ⟨S1x2048x32, .f32⟩
  | 113 => ⟨S16x2048x32, .f32⟩
  | 114 => ⟨S16x2048x32, .f32⟩
  | 115 => ⟨S1x2048x32, .f32⟩
  | 116 => ⟨S16x2048x32, .f32⟩
  | 117 => ⟨S16x2048x32, .f32⟩
  | 118 => ⟨S16x2048x32, .f32⟩
  | 119 => ⟨S16x2048x64, .f32⟩
  | 120 => ⟨S16x2048x64, .f32⟩
  | 121 => ⟨S16x2048x8x64, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S16x2048x1024, .f32⟩

abbrev hbmTy0_1 (i : Nat) : BufTy := match i % 128 with
  | 0 => ⟨S32, .f32⟩
  | 1 => ⟨S32, .f32⟩
  | 2 => ⟨S2048, .f32⟩
  | 3 => ⟨S2048x1, .f32⟩
  | 4 => ⟨S1x32, .f32⟩
  | 5 => ⟨S2048x32, .f32⟩
  | 6 => ⟨S2048x32, .f32⟩
  | 7 => ⟨S2048x32, .f32⟩
  | 8 => ⟨S2048x32, .f32⟩
  | 9 => ⟨S2048x32, .f32⟩
  | 10 => ⟨S2048x1x32, .f32⟩
  | 11 => ⟨S2048x1x32, .f32⟩
  | 12 => ⟨S16x2048x8x32, .f32⟩
  | 13 => ⟨S16x2048x8x32, .f32⟩
  | 14 => ⟨S1x2048x1x32, .f32⟩
  | 15 => ⟨S16x2048x8x32, .f32⟩
  | 16 => ⟨S16x2048x8x32, .f32⟩
  | 17 => ⟨S1x2048x1x32, .f32⟩
  | 18 => ⟨S16x2048x8x32, .f32⟩
  | 19 => ⟨S16x2048x8x32, .f32⟩
  | 20 => ⟨S16x2048x8x32, .f32⟩
  | 21 => ⟨S1x2048x1x32, .f32⟩
  | 22 => ⟨S16x2048x8x32, .f32⟩
  | 23 => ⟨S16x2048x8x32, .f32⟩
  | 24 => ⟨S1x2048x1x32, .f32⟩
  | 25 => ⟨S16x2048x8x32, .f32⟩
  | 26 => ⟨S16x2048x8x32, .f32⟩
  | 27 => ⟨S16x2048x8x32, .f32⟩
  | 28 => ⟨S16x2048x8x64, .f32⟩
  | 29 => ⟨S_, .f32⟩
  | 30 => ⟨S16x2048x8x64, .f32⟩
  | 31 => ⟨S16x2048x8x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S2048, .f32⟩
  | 41 => ⟨S2048x1, .f32⟩
  | 42 => ⟨S1x32, .f32⟩
  | 43 => ⟨S2048x32, .f32⟩
  | 44 => ⟨S2048x32, .f32⟩
  | 45 => ⟨S2048x32, .f32⟩
  | 46 => ⟨S2048x32, .f32⟩
  | 47 => ⟨S2048x32, .f32⟩
  | 48 => ⟨S16x2048x32, .f32⟩
  | 49 => ⟨S16x2048x32, .f32⟩
  | 50 => ⟨S1x2048x32, .f32⟩
  | 51 => ⟨S16x2048x32, .f32⟩
  | 52 => ⟨S16x2048x32, .f32⟩
  | 53 => ⟨S1x2048x32, .f32⟩
  | 54 => ⟨S16x2048x32, .f32⟩
  | 55 => ⟨S16x2048x32, .f32⟩
  | 56 => ⟨S16x2048x32, .f32⟩
  | 57 => ⟨S1x2048x32, .f32⟩
  | 58 => ⟨S16x2048x32, .f32⟩
  | 59 => ⟨S16x2048x32, .f32⟩
  | 60 => ⟨S1x2048x32, .f32⟩
  | 61 => ⟨S16x2048x32, .f32⟩
  | 62 => ⟨S16x2048x32, .f32⟩
  | 63 => ⟨S16x2048x32, .f32⟩
  | 64 => ⟨S16x2048x64, .f32⟩
  | 65 => ⟨S_, .f32⟩
  | 66 => ⟨S16x2048x8, .f32⟩
  | 67 => ⟨S16x2048x8, .f32⟩
  | 68 => ⟨S_, .f32⟩
  | 69 => ⟨S16x2048x64, .f32⟩
  | 70 => ⟨S16x2048x384, .f32⟩
  | 71 => ⟨S16x2048x128, .f32⟩
  | 72 => ⟨S32768x1024, .f32⟩
  | 73 => ⟨S32768x1024, .bf16⟩
  | 74 => ⟨S32768x384, .f32⟩
  | 75 => ⟨S32768x384, .bf16⟩
  | 76 => ⟨S32768x512, .f32⟩
  | 77 => ⟨S32768x512, .bf16⟩
  | 78 => ⟨S32768x128, .f32⟩
  | 79 => ⟨S32768x128, .bf16⟩
  | 80 => ⟨S16x8x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_cst_9 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_10 : Ref sig .tc := ⟨.hbm, 124, rfl⟩
abbrev main_v107 : Ref sig .tc := ⟨.hbm, 125, rfl⟩
abbrev main_v108 : Ref sig .tc := ⟨.hbm, 126, rfl⟩
abbrev main_cst_11 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_12 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_13 : Ref sig .tc := ⟨.hbm, 162, rfl⟩
abbrev main_v142 : Ref sig .tc := ⟨.hbm, 163, rfl⟩
abbrev main_v143 : Ref sig .tc := ⟨.hbm, 164, rfl⟩
abbrev main_cst_14 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_cst_15 : Ref sig .tc := ⟨.hbm, 193, rfl⟩
abbrev main_v171 : Ref sig .tc := ⟨.hbm, 194, rfl⟩
abbrev main_v172 : Ref sig .tc := ⟨.hbm, 195, rfl⟩
abbrev main_cst_16 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩

abbrev nD : Nat := 1
abbrev τ : Topo := Topo.v7x

variable {F : FTy → Type} [FloatOps F]
-- ==== NsaIn.lean ====
abbrev S16x2048x1024 : Shape := ⟨3, ![16, 2048, 1024]⟩
abbrev S4x1024 : Shape := ⟨2, ![4, 1024]⟩
abbrev S1024x1840 : Shape := ⟨2, ![1024, 1840]⟩
abbrev S4x1x1024 : Shape := ⟨3, ![4, 1, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S32768x1024 : Shape := ⟨2, ![32768, 1024]⟩
abbrev S1x1x1024 : Shape := ⟨3, ![1, 1, 1024]⟩
abbrev S1x1024 : Shape := ⟨2, ![1, 1024]⟩
abbrev S1024x1920 : Shape := ⟨2, ![1024, 1920]⟩
abbrev S32768x1536 : Shape := ⟨2, ![32768, 1536]⟩
abbrev S32768x128 : Shape := ⟨2, ![32768, 128]⟩
abbrev S32768x256 : Shape := ⟨2, ![32768, 256]⟩
abbrev S512x1024 : Shape := ⟨2, ![512, 1024]⟩
abbrev S512x128 : Shape := ⟨2, ![512, 128]⟩
abbrev S512x1536 : Shape := ⟨2, ![512, 1536]⟩
abbrev S512x256 : Shape := ⟨2, ![512, 256]⟩
abbrev S512 : Shape := ⟨1, ![512]⟩
abbrev S512x1 : Shape := ⟨2, ![512, 1]⟩
abbrev S512x1920 : Shape := ⟨2, ![512, 1920]⟩

abbrev nBuf : Space → Nat
  | .hbm => 41
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S4x1024, .f32⟩
  | .hbm, ⟨2, _⟩ => ⟨S1024x1840, .f32⟩
  | .hbm, ⟨3, _⟩ => ⟨S4x1x1024, .f32⟩
  | .hbm, ⟨4, _⟩ => ⟨S2048, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .f32⟩
  | .hbm, ⟨14, _⟩ => ⟨S2048x1, .f32⟩
  | .hbm, ⟨15, _⟩ => ⟨S1x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S1x2048x1x32, .f32⟩
  | .hbm, ⟨22, _⟩ => ⟨S1x2048x4x32, .f32⟩
  | .hbm, ⟨23, _⟩ => ⟨S2048x128, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S32768x1024, .f32⟩
  | .hbm, ⟨30, _⟩ => ⟨S1x1x1024, .f32⟩
  | .hbm, ⟨31, _⟩ => ⟨S1x1024, .f32⟩
  | .hbm, ⟨32, _⟩ => ⟨S_, .i32⟩
  | .hbm, ⟨33, _⟩ => ⟨S_, .f32⟩
  | .hbm, ⟨34, _⟩ => ⟨S1024x1920, .f32⟩
  | .hbm, ⟨35, _⟩ => ⟨S1024x1920, .bf16⟩
  | .hbm, ⟨36, _⟩ => ⟨S32768x1024, .bf16⟩
  | .hbm, ⟨37, _⟩ => ⟨S32768x1536, .bf16⟩
  | .hbm, ⟨38, _⟩ => ⟨S32768x128, .f32⟩
  | .hbm, ⟨39, _⟩ => ⟨S32768x128, .f32⟩
  | .hbm, ⟨40, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1536, .bf16⟩
  | .local _ .vmem, ⟨11, _⟩ => ⟨S512x1536, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x256, .f32⟩
  | .local _ .vmem, ⟨17, _⟩ => ⟨S512x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_call0_v0 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v29_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NsaInRefIdeal.lean ====
abbrev S16x2048x1024 : Shape := ⟨3, ![16, 2048, 1024]⟩
abbrev S4x1024 : Shape := ⟨2, ![4, 1024]⟩
abbrev S1024x1840 : Shape := ⟨2, ![1024, 1840]⟩
abbrev S2048 : Shape := ⟨1, ![2048]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1840 : Shape := ⟨3, ![16, 2048, 1840]⟩
abbrev S16x2048x128 : Shape := ⟨3, ![16, 2048, 128]⟩
abbrev S16x2048x48 : Shape := ⟨3, ![16, 2048, 48]⟩
abbrev S16x2048x16x64 : Shape := ⟨4, ![16, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x16x32 : Shape := ⟨4, ![16, 2048, 16, 32]⟩
abbrev S1x2048x1x32 : Shape := ⟨4, ![1, 2048, 1, 32]⟩
abbrev S16x2048x2x64 : Shape := ⟨4, ![16, 2048, 2, 64]⟩
abbrev S16x2048x2x32 : Shape := ⟨4, ![16, 2048, 2, 32]⟩
abbrev S16x2048x2x768 : Shape := ⟨4, ![16, 2048, 2, 768]⟩
abbrev S16x2048x104 : Shape := ⟨3, ![16, 2048, 104]⟩
abbrev S16x2048x24 : Shape := ⟨3, ![16, 2048, 24]⟩
abbrev S16x2048x256 : Shape := ⟨3, ![16, 2048, 256]⟩
abbrev S32768x1024 : Shape := ⟨2, ![32768, 1024]⟩
abbrev S32768x1536 : Shape := ⟨2, ![32768, 1536]⟩
abbrev S32768x128 : Shape := ⟨2, ![32768, 128]⟩
abbrev S32768x256 : Shape := ⟨2, ![32768, 256]⟩

abbrev nBuf : Space → Nat
  | .hbm => 168
  | .vmem => 0
  | .smem => 0
  | _ => 0

abbrev hbmTy0_0 (i : Nat) : BufTy := match i % 128 with
  | 0 => ⟨S16x2048x1024, .f32⟩
  | 1 => ⟨S4x1024, .f32⟩
  | 2 => ⟨S1024x1840, .f32⟩
  | 3 => ⟨S2048, .i32⟩
  | 4 => ⟨S1x1024, .f32⟩
  | 5 => ⟨S1024, .f32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S16x2048x1840, .f32⟩
  | 23 => ⟨S16x2048x1024, .f32⟩
  | 24 => ⟨S16x2048x128, .f32⟩
  | 25 => ⟨S16x2048x128, .f32⟩
  | 26 => ⟨S16x2048x128, .f32⟩
  | 27 => ⟨S16x2048x128, .f32⟩
  | 28 => ⟨S16x2048x128, .f32⟩
  | 29 => ⟨S16x2048x128, .f32⟩
  | 30 => ⟨S16x2048x48, .f32⟩
  | 31 => ⟨S16x2048x16x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S2048, .f32⟩
  | 41 => ⟨S2048x1, .f32⟩
  | 42 => ⟨S1x32, .f32⟩
  | 43 => ⟨S2048x32, .f32⟩
  | 44 => ⟨S2048x32, .f32⟩
  | 45 => ⟨S2048x32, .f32⟩
  | 46 => ⟨S2048x32, .f32⟩
  | 47 => ⟨S2048x32, .f32⟩
  | 48 => ⟨S2048x1x32, .f32⟩
  | 49 => ⟨S2048x1x32, .f32⟩
  | 50 => ⟨S16x2048x16x32, .f32⟩
  | 51 => ⟨S16x2048x16x32, .f32⟩
  | 52 => ⟨S1x2048x1x32, .f32⟩
  | 53 => ⟨S16x2048x16x32, .f32⟩
  | 54 => ⟨S16x2048x16x32, .f32⟩
  | 55 => ⟨S1x2048x1x32, .f32⟩
  | 56 => ⟨S16x2048x16x32, .f32⟩
  | 57 => ⟨S16x2048x16x32, .f32⟩
  | 58 => ⟨S16x2048x16x32, .f32⟩
  | 59 => ⟨S1x2048x1x32, .f32⟩
  | 60 => ⟨S16x2048x16x32, .f32⟩
  | 61 => ⟨S16x2048x16x32, .f32⟩
  | 62 => ⟨S1x2048x1x32, .f32⟩
  | 63 => ⟨S16x2048x16x32, .f32⟩
  | 64 => ⟨S16x2048x16x32, .f32⟩
  | 65 => ⟨S16x2048x16x32, .f32⟩
  | 66 => ⟨S16x2048x16x64, .f32⟩
  | 67 => ⟨S_, .f32⟩
  | 68 => ⟨S16x2048x16x64, .f32⟩
  | 69 => ⟨S16x2048x16x64, .f32⟩
  | 70 => ⟨S16x2048x2x64, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S2048, .f32⟩
  | 80 => ⟨S2048x1, .f32⟩
  | 81 => ⟨S1x32, .f32⟩
  | 82 => ⟨S2048x32, .f32⟩
  | 83 => ⟨S2048x32, .f32⟩
  | 84 => ⟨S2048x32, .f32⟩
  | 85 => ⟨S2048x32, .f32⟩
  | 86 => ⟨S2048x32, .f32⟩
  | 87 => ⟨S2048x1x32, .f32⟩
  | 88 => ⟨S2048x1x32, .f32⟩
  | 89 => ⟨S16x2048x2x32, .f32⟩
  | 90 => ⟨S16x2048x2x32, .f32⟩
  | 91 => ⟨S1x2048x1x32, .f32⟩
  | 92 => ⟨S16x2048x2x32, .f32⟩
  | 93 => ⟨S16x2048x2x32, .f32⟩
  | 94 => ⟨S1x2048x1x32, .f32⟩
  | 95 => ⟨S16x2048x2x32, .f32⟩
  | 96 => ⟨S16x2048x2x32, .f32⟩
  | 97 => ⟨S16x2048x2x32, .f32⟩
  | 98 => ⟨S1x2048x1x32, .f32⟩
  | 99 => ⟨S16x2048x2x32, .f32⟩
  | 100 => ⟨S16x2048x2x32, .f32⟩
  | 101 => ⟨S1x2048x1x32, .f32⟩
  | 102 => ⟨S16x2048x2x32, .f32⟩
  | 103 => ⟨S16x2048x2x32, .f32⟩
  | 104 => ⟨S16x2048x2x32, .f32⟩
  | 105 => ⟨S16x2048x2x64, .f32⟩
  | 106 => ⟨S16x2048x2x64, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S2048, .f32⟩
  | 116 => ⟨S2048x1, .f32⟩
  | 117 => ⟨S1x32, .f32⟩
  | 118 => ⟨S2048x32, .f32⟩
  | 119 => ⟨S2048x32, .f32⟩
  | 120 => ⟨S2048x32, .f32⟩
  | 121 => ⟨S2048x32, .f32⟩
  | 122 => ⟨S2048x32, .f32⟩
  | 123 => ⟨S2048x1x32, .f32⟩
  | 124 => ⟨S2048x1x32, .f32⟩
  | 125 => ⟨S16x2048x2x32, .f32⟩
  | 126 => ⟨S16x2048x2x32, .f32⟩
  | 127 => ⟨S1x2048x1x32, .f32⟩
  | _ => ⟨S16x2048x1024, .f32⟩

abbrev hbmTy0_1 (i : Nat) : BufTy := match i % 128 with
  | 0 => ⟨S16x2048x2x32, .f32⟩
  | 1 => ⟨S16x2048x2x32, .f32⟩
  | 2 => ⟨S1x2048x1x32, .f32⟩
  | 3 => ⟨S16x2048x2x32, .f32⟩
  | 4 => ⟨S16x2048x2x32, .f32⟩
  | 5 => ⟨S16x2048x2x32, .f32⟩
  | 6 => ⟨S1x2048x1x32, .f32⟩
  | 7 => ⟨S16x2048x2x32, .f32⟩
  | 8 => ⟨S16x2048x2x32, .f32⟩
  | 9 => ⟨S1x2048x1x32, .f32⟩
  | 10 => ⟨S16x2048x2x32, .f32⟩
  | 11 => ⟨S16x2048x2x32, .f32⟩
  | 12 => ⟨S16x2048x2x32, .f32⟩
  | 13 => ⟨S16x2048x2x64, .f32⟩
  | 14 => ⟨S16x2048x2x64, .f32⟩
  | 15 => ⟨S16x2048x2x64, .f32⟩
  | 16 => ⟨S_, .f32⟩
  | 17 => ⟨S16x2048x2x64, .f32⟩
  | 18 => ⟨S16x2048x2x768, .f32⟩
  | 19 => ⟨S_, .i32⟩
  | 20 => ⟨S_, .f32⟩
  | 21 => ⟨S16x2048x128, .f32⟩
  | 22 => ⟨S16x2048x128, .f32⟩
  | 23 => ⟨S16x2048x128, .f32⟩
  | 24 => ⟨S_, .f32⟩
  | 25 => ⟨S16x2048x128, .f32⟩
  | 26 => ⟨S16x2048x128, .f32⟩
  | 27 => ⟨S_, .f32⟩
  | 28 => ⟨S16x2048x128, .f32⟩
  | 29 => ⟨S16x2048x128, .f32⟩
  | 30 => ⟨S16x2048x104, .f32⟩
  | 31 => ⟨S16x2048x24, .f32⟩
  | 32 => ⟨S16x2048x256, .f32⟩
  | 33 => ⟨S32768x1024, .f32⟩
  | 34 => ⟨S32768x1024, .bf16⟩
  | 35 => ⟨S32768x1536, .f32⟩
  | 36 => ⟨S32768x1536, .bf16⟩
  | 37 => ⟨S32768x128, .f32⟩
  | 38 => ⟨S32768x128, .f32⟩
  | 39 => ⟨S32768x256, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_cst_6 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_cst_8 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_cst_9 : Ref sig .tc := ⟨.hbm, 144, rfl⟩
abbrev main_v131 : Ref sig .tc := ⟨.hbm, 145, rfl⟩
abbrev main_v132 : Ref sig .tc := ⟨.hbm, 146, rfl⟩
abbrev main_c : Ref sig .tc := ⟨.hbm, 147, rfl⟩
abbrev main_call0_v0 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_cst_10 : Ref sig .tc := ⟨.hbm, 152, rfl⟩
abbrev main_v136 : Ref sig .tc := ⟨.hbm, 153, rfl⟩
abbrev main_v137 : Ref sig .tc := ⟨.hbm, 154, rfl⟩
abbrev main_cst_11 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩

abbrev nD : Nat := 1
abbrev τ : Topo := Topo.v7x

variable {F : FTy → Type} [FloatOps F]
-- ==== Compress.lean ====
abbrev S16x2048x128 : Shape := ⟨3, ![16, 2048, 128]⟩
abbrev S32x64 : Shape := ⟨2, ![32, 64]⟩
abbrev S2048x256 : Shape := ⟨2, ![2048, 256]⟩
abbrev S256x64 : Shape := ⟨2, ![256, 64]⟩
abbrev S128 : Shape := ⟨1, ![128]⟩
abbrev S_ : Shape := ⟨0, ![]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S1x128x1x32 : Shape := ⟨4, ![1, 128, 1, 32]⟩
abbrev S1x128x4x32 : Shape := ⟨4, ![1, 128, 4, 32]⟩
abbrev S128x128 : Shape := ⟨2, ![128, 128]⟩
abbrev S128x64 : Shape := ⟨2, ![128, 64]⟩
abbrev S1x128x1x64 : Shape := ⟨4, ![1, 128, 1, 64]⟩
abbrev S1x128x2x64 : Shape := ⟨4, ![1, 128, 2, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x32x128 : Shape := ⟨3, ![1, 32, 128]⟩
abbrev S2x32x128 : Shape := ⟨3, ![2, 32, 128]⟩
abbrev S32x64x256 : Shape := ⟨3, ![32, 64, 256]⟩
abbrev S32x64x512 : Shape := ⟨3, ![32, 64, 512]⟩
abbrev S32x128x512 : Shape := ⟨3, ![32, 128, 512]⟩
abbrev S1x32x128x512 : Shape := ⟨4, ![1, 32, 128, 512]⟩
abbrev S2x32x128x512 : Shape := ⟨4, ![2, 32, 128, 512]⟩
abbrev S1x256x1x64 : Shape := ⟨4, ![1, 256, 1, 64]⟩
abbrev S1x256x2x64 : Shape := ⟨4, ![1, 256, 2, 64]⟩
abbrev S256x128 : Shape := ⟨2, ![256, 128]⟩
abbrev S256x256 : Shape := ⟨2, ![256, 256]⟩
abbrev S512x256 : Shape := ⟨2, ![512, 256]⟩
abbrev S1x512x256 : Shape := ⟨3, ![1, 512, 256]⟩
abbrev S2x512x256 : Shape := ⟨3, ![2, 512, 256]⟩
abbrev S16x128x512 : Shape := ⟨3, ![16, 128, 512]⟩
abbrev S1x2048x128 : Shape := ⟨3, ![1, 2048, 128]⟩
abbrev S1x128x512 : Shape := ⟨3, ![1, 128, 512]⟩
abbrev S1x128x128 : Shape := ⟨3, ![1, 128, 128]⟩
abbrev S1x1x128 : Shape := ⟨3, ![1, 1, 128]⟩
abbrev S1x128 : Shape := ⟨2, ![1, 128]⟩
abbrev S1x1x128x512 : Shape := ⟨4, ![1, 1, 128, 512]⟩
abbrev S128x512 : Shape := ⟨2, ![128, 512]⟩
abbrev S128x256 : Shape := ⟨2, ![128, 256]⟩

abbrev nBuf : Space → Nat
  | .hbm => 85
  | .vmem => 11
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S128, .f32⟩
  | .hbm, ⟨24, _⟩ => ⟨S128x1, .f32⟩
  | .hbm, ⟨25, _⟩ => ⟨S1x32, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32, .f32⟩
  | .hbm, ⟨31, _⟩ => ⟨S1x128x1x32, .f32⟩
  | .hbm, ⟨32, _⟩ => ⟨S1x128x4x32, .f32⟩
  | .hbm, ⟨33, _⟩ => ⟨S128x128, .f32⟩
  | .hbm, ⟨34, _⟩ => ⟨S128x32, .f32⟩
  | .hbm, ⟨35, _⟩ => ⟨S128x64, .f32⟩
  | .hbm, ⟨36, _⟩ => ⟨S1x128x1x64, .f32⟩
  | .hbm, ⟨37, _⟩ => ⟨S1x128x2x64, .f32⟩
  | .hbm, ⟨38, _⟩ => ⟨S128x128, .f32⟩
  | .hbm, ⟨39, _⟩ => ⟨S1x32x1x64, .f32⟩
  | .hbm, ⟨40, _⟩ => ⟨S1x32x2x64, .f32⟩
  | .hbm, ⟨41, _⟩ => ⟨S32x128, .f32⟩
  | .hbm, ⟨42, _⟩ => ⟨S1x32x1x64, .f32⟩
  | .hbm, ⟨43, _⟩ => ⟨S1x32x2x64, .f32⟩
  | .hbm, ⟨44, _⟩ => ⟨S32x128, .f32⟩
  | .hbm, ⟨45, _⟩ => ⟨S1x32x128, .f32⟩
  | .hbm, ⟨46, _⟩ => ⟨S1x32x128, .f32⟩
  | .hbm, ⟨47, _⟩ => ⟨S2x32x128, .f32⟩
  | .hbm, ⟨48, _⟩ => ⟨S32x64x256, .f32⟩
  | .hbm, ⟨49, _⟩ => ⟨S_, .f32⟩
  | .hbm, ⟨50, _⟩ => ⟨S32x64x256, .f32⟩
  | .hbm, ⟨51, _⟩ => ⟨S32x64x512, .f32⟩
  | .hbm, ⟨52, _⟩ => ⟨S32x64x512, .f32⟩
  | .hbm, ⟨53, _⟩ => ⟨S32x128x512, .f32⟩
  | .hbm, ⟨54, _⟩ => ⟨S32x64x256, .f32⟩
  | .hbm, ⟨55, _⟩ => ⟨S_, .f32⟩
  | .hbm, ⟨56, _⟩ => ⟨S32x64x256, .f32⟩
  | .hbm, ⟨57, _⟩ => ⟨S32x64x512, .f32⟩
  | .hbm, ⟨58, _⟩ => ⟨S32x64x512, .f32⟩
  | .hbm, ⟨59, _⟩ => ⟨S32x128x512, .f32⟩
  | .hbm, ⟨60, _⟩ => ⟨S1x32x128x512, .f32⟩
  | .hbm, ⟨61, _⟩ => ⟨S1x32x128x512, .f32⟩
  | .hbm, ⟨62, _⟩ => ⟨S2x32x128x512, .f32⟩
  | .hbm, ⟨63, _⟩ => ⟨S2x32x128x512, .bf16⟩
  | .hbm, ⟨64, _⟩ => ⟨S1x256x1x64, .f32⟩
  | .hbm, ⟨65, _⟩ => ⟨S1x256x2x64, .f32⟩
  | .hbm, ⟨66, _⟩ => ⟨S256x128, .f32⟩
  | .hbm, ⟨67, _⟩ => ⟨S_, .f32⟩
  | .hbm, ⟨68, _⟩ => ⟨S256x128, .f32⟩
  | .hbm, ⟨69, _⟩ => ⟨S256x256, .f32⟩
  | .hbm, ⟨70, _⟩ => ⟨S256x256, .f32⟩
  | .hbm, ⟨71, _⟩ => ⟨S512x256, .f32⟩
  | .hbm, ⟨72, _⟩ => ⟨S1x256x1x64, .f32⟩
  | .hbm, ⟨73, _⟩ => ⟨S1x256x2x64, .f32⟩
  | .hbm, ⟨74, _⟩ => ⟨S256x128, .f32⟩
  | .hbm, ⟨75, _⟩ => ⟨S_, .f32⟩
  | .hbm, ⟨76, _⟩ => ⟨S256x128, .f32⟩
  | .hbm, ⟨77, _⟩ => ⟨S256x256, .f32⟩
  | .hbm, ⟨78, _⟩ => ⟨S256x256, .f32⟩
  | .hbm, ⟨79, _⟩ => ⟨S512x256, .f32⟩
  | .hbm, ⟨80, _⟩ => ⟨S1x512x256, .f32⟩
  | .hbm, ⟨81, _⟩ => ⟨S1x512x256, .f32⟩
  | .hbm, ⟨82, _⟩ => ⟨S2x512x256, .f32⟩
  | .hbm, ⟨83, _⟩ => ⟨S2x512x256, .bf16⟩
  | .hbm, ⟨84, _⟩ => ⟨S16x128x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2x32x128, .f32⟩
  | .local _ .vmem, ⟨5, _⟩ => ⟨S2x32x128x512, .bf16⟩
  | .local _ .vmem, ⟨6, _⟩ => ⟨S2x512x256, .bf16⟩
  | .local _ .vmem, ⟨7, _⟩ => ⟨S128x128, .f32⟩
  | .local _ .vmem, ⟨8, _⟩ => ⟨S128x128, .f32⟩
  | .local _ .vmem, ⟨9, _⟩ => ⟨S1x128x512, .bf16⟩
  | .local _ .vmem, ⟨10, _⟩ => ⟨S1x128x512, .bf16⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CompressRefIdeal.lean ====
abbrev S16x2048x128 : Shape := ⟨3, ![16, 2048, 128]⟩
abbrev S32x64 : Shape := ⟨2, ![32, 64]⟩
abbrev S2048x256 : Shape := ⟨2, ![2048, 256]⟩
abbrev S256x64 : Shape := ⟨2, ![256, 64]⟩
abbrev S16x128x16x2x64 : Shape := ⟨5, ![16, 128, 16, 2, 64]⟩
abbrev S16x127x16x2x64 : Shape := ⟨5, ![16, 127, 16, 2, 64]⟩
abbrev S16x1x16x2x64 : Shape := ⟨5, ![16, 1, 16, 2, 64]⟩
abbrev S16x128x32x2x64 : Shape := ⟨5, ![16, 128, 32, 2, 64]⟩
abbrev S1x1x32x1x64 : Shape := ⟨5, ![1, 1, 32, 1, 64]⟩
abbrev S16x128x2x32x64 : Shape := ⟨5, ![16, 128, 2, 32, 64]⟩
abbrev S16x128x2x2048 : Shape := ⟨4, ![16, 128, 2, 2048]⟩
abbrev S16x128x2x256 : Shape := ⟨4, ![16, 128, 2, 256]⟩
abbrev S_ : Shape := ⟨0, ![]⟩
abbrev S16x128x2x64 : Shape := ⟨4, ![16, 128, 2, 64]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x1x32 : Shape := ⟨3, ![128, 1, 32]⟩
abbrev S16x128x2x32 : Shape := ⟨4, ![16, 128, 2, 32]⟩
abbrev S1x128x1x32 : Shape := ⟨4, ![1, 128, 1, 32]⟩
abbrev S16x128x2x128 : Shape := ⟨4, ![16, 128, 2, 128]⟩
abbrev S16x128x256 : Shape := ⟨3, ![16, 128, 256]⟩
abbrev S16x128x512 : Shape := ⟨3, ![16, 128, 512]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S16x128x16x2x64, .f32⟩
  | .hbm, ⟨9, _⟩ => ⟨S16x127x16x2x64, .f32⟩
  | .hbm, ⟨10, _⟩ => ⟨S16x1x16x2x64, .f32⟩
  | .hbm, ⟨11, _⟩ => ⟨S16x128x16x2x64, .f32⟩
  | .hbm, ⟨12, _⟩ => ⟨S16x128x32x2x64, .f32⟩
  | .hbm, ⟨13, _⟩ => ⟨S1x1x32x1x64, .f32⟩
  | .hbm, ⟨14, _⟩ => ⟨S16x128x32x2x64, .f32⟩
  | .hbm, ⟨15, _⟩ => ⟨S16x128x32x2x64, .f32⟩
  | .hbm, ⟨16, _⟩ => ⟨S16x128x2x32x64, .f32⟩
  | .hbm, ⟨17, _⟩ => ⟨S16x128x2x2048, .f32⟩
  | .hbm, ⟨18, _⟩ => ⟨S16x128x2x256, .f32⟩
  | .hbm, ⟨19, _⟩ => ⟨S16x128x2x256, .f32⟩
  | .hbm, ⟨20, _⟩ => ⟨S16x128x2x256, .f32⟩
  | .hbm, ⟨21, _⟩ => ⟨S_, .f32⟩
  | .hbm, ⟨22, _⟩ => ⟨S16x128x2x256, .f32⟩
  | .hbm, ⟨23, _⟩ => ⟨S16x128x2x256, .f32⟩
  | .hbm, ⟨24, _⟩ => ⟨S16x128x2x256, .f32⟩
  | .hbm, ⟨25, _⟩ => ⟨S_, .f32⟩
  | .hbm, ⟨26, _⟩ => ⟨S16x128x2x256, .f32⟩
  | .hbm, ⟨27, _⟩ => ⟨S16x128x2x256, .f32⟩
  | .hbm, ⟨28, _⟩ => ⟨S16x128x2x256, .f32⟩
  | .hbm, ⟨29, _⟩ => ⟨S_, .f32⟩
  | .hbm, ⟨30, _⟩ => ⟨S16x128x2x256, .f32⟩
  | .hbm, ⟨31, _⟩ => ⟨S16x128x2x256, .f32⟩
  | .hbm, ⟨32, _⟩ => ⟨S_, .f32⟩
  | .hbm, ⟨33, _⟩ => ⟨S16x128x2x256, .f32⟩
  | .hbm, ⟨34, _⟩ => ⟨S16x128x2x256, .f32⟩
  | .hbm, ⟨35, _⟩ => ⟨S16x128x2x256, .f32⟩
  | .hbm, ⟨36, _⟩ => ⟨S16x128x2x64, .f32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S128, .f32⟩
  | .hbm, ⟨53, _⟩ => ⟨S128x1, .f32⟩
  | .hbm, ⟨54, _⟩ => ⟨S1x32, .f32⟩
  | .hbm, ⟨55, _⟩ => ⟨S128x32, .f32⟩
  | .hbm, ⟨56, _⟩ => ⟨S128x32, .f32⟩
  | .hbm, ⟨57, _⟩ => ⟨S128x32, .f32⟩
  | .hbm, ⟨58, _⟩ => ⟨S128x32, .f32⟩
  | .hbm, ⟨59, _⟩ => ⟨S128x32, .f32⟩
  | .hbm, ⟨60, _⟩ => ⟨S128x1x32, .f32⟩
  | .hbm, ⟨61, _⟩ => ⟨S128x1x32, .f32⟩
  | .hbm, ⟨62, _⟩ => ⟨S16x128x2x32, .f32⟩
  | .hbm, ⟨63, _⟩ => ⟨S16x128x2x32, .f32⟩
  | .hbm, ⟨64, _⟩ => ⟨S1x128x1x32, .f32⟩
  | .hbm, ⟨65, _⟩ => ⟨S16x128x2x32, .f32⟩
  | .hbm, ⟨66, _⟩ => ⟨S16x128x2x32, .f32⟩
  | .hbm, ⟨67, _⟩ => ⟨S1x128x1x32, .f32⟩
  | .hbm, ⟨68, _⟩ => ⟨S16x128x2x32, .f32⟩
  | .hbm, ⟨69, _⟩ => ⟨S16x128x2x32, .f32⟩
  | .hbm, ⟨70, _⟩ => ⟨S16x128x2x32, .f32⟩
  | .hbm, ⟨71, _⟩ => ⟨S1x128x1x32, .f32⟩
  | .hbm, ⟨72, _⟩ => ⟨S16x128x2x32, .f32⟩
  | .hbm, ⟨73, _⟩ => ⟨S16x128x2x32, .f32⟩
  | .hbm, ⟨74, _⟩ => ⟨S1x128x1x32, .f32⟩
  | .hbm, ⟨75, _⟩ => ⟨S16x128x2x32, .f32⟩
  | .hbm, ⟨76, _⟩ => ⟨S16x128x2x32, .f32⟩
  | .hbm, ⟨77, _⟩ => ⟨S16x128x2x32, .f32⟩
  | .hbm, ⟨78, _⟩ => ⟨S16x128x2x64, .f32⟩
  | .hbm, ⟨79, _⟩ => ⟨S16x128x16x2x64, .f32⟩
  | .hbm, ⟨80, _⟩ => ⟨S16x127x16x2x64, .f32⟩
  | .hbm, ⟨81, _⟩ => ⟨S16x1x16x2x64, .f32⟩
  | .hbm, ⟨82, _⟩ => ⟨S16x128x16x2x64, .f32⟩
  | .hbm, ⟨83, _⟩ => ⟨S16x128x32x2x64, .f32⟩
  | .hbm, ⟨84, _⟩ => ⟨S1x1x32x1x64, .f32⟩
  | .hbm, ⟨85, _⟩ => ⟨S16x128x32x2x64, .f32⟩
  | .hbm, ⟨86, _⟩ => ⟨S16x128x32x2x64, .f32⟩
  | .hbm, ⟨87, _⟩ => ⟨S16x128x2x32x64, .f32⟩
  | .hbm, ⟨88, _⟩ => ⟨S16x128x2x2048, .f32⟩
  | .hbm, ⟨89, _⟩ => ⟨S16x128x2x256, .f32⟩
  | .hbm, ⟨90, _⟩ => ⟨S16x128x2x256, .f32⟩
  | .hbm, ⟨91, _⟩ => ⟨S16x128x2x256, .f32⟩
  | .hbm, ⟨92, _⟩ => ⟨S_, .f32⟩
  | .hbm, ⟨93, _⟩ => ⟨S16x128x2x256, .f32⟩
  | .hbm, ⟨94, _⟩ => ⟨S16x128x2x256, .f32⟩
  | .hbm, ⟨95, _⟩ => ⟨S16x128x2x256, .f32⟩
  | .hbm, ⟨96, _⟩ => ⟨S_, .f32⟩
  | .hbm, ⟨97, _⟩ => ⟨S16x128x2x256, .f32⟩
  | .hbm, ⟨98, _⟩ => ⟨S16x128x2x256, .f32⟩
  | .hbm, ⟨99, _⟩ => ⟨S16x128x2x256, .f32⟩
  | .hbm, ⟨100, _⟩ => ⟨S_, .f32⟩
  | .hbm, ⟨101, _⟩ => ⟨S16x128x2x256, .f32⟩
  | .hbm, ⟨102, _⟩ => ⟨S16x128x2x256, .f32⟩
  | .hbm, ⟨103, _⟩ => ⟨S_, .f32⟩
  | .hbm, ⟨104, _⟩ => ⟨S16x128x2x256, .f32⟩
  | .hbm, ⟨105, _⟩ => ⟨S16x128x2x256, .f32⟩
  | .hbm, ⟨106, _⟩ => ⟨S16x128x2x256, .f32⟩
  | .hbm, ⟨107, _⟩ => ⟨S16x128x2x64, .f32⟩
  | .hbm, ⟨108, _⟩ => ⟨S16x128x2x128, .f32⟩
  | .hbm, ⟨109, _⟩ => ⟨S16x128x256, .f32⟩
  | .hbm, ⟨110, _⟩ => ⟨S16x128x2x128, .f32⟩
  | .hbm, ⟨111, _⟩ => ⟨S16x128x256, .f32⟩
  | .hbm, ⟨112, _⟩ => ⟨S16x128x512, .f32⟩
  | .hbm, ⟨113, _⟩ => ⟨S16x128x512, .bf16⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_6 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_7 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩

abbrev nD : Nat := 1
abbrev τ : Topo := Topo.v7x

variable {F : FTy → Type} [FloatOps F]
-- ==== Proof.Loads.lean ====
/- Two buffers of the FFN kernel are stored in pieces and loaded back within one grid point.
   `rows_two` reads a buffer of 528 rows that two stores fill; `slot_load` reads 512 rows out of
   one of the four slots of the convolution buffer. -/
module

public import Idealize.ShloMosaic.Lib.Pipeline.ValueKit
public import Idealize.ShloMosaic.Lib.Pipeline.ReadBack

@[expose] public section

set_option maxRecDepth 16384

noncomputable section

namespace Cert.Ffn

open Idealize.ShloMosaic Idealize.ShloMosaic.TcCoe
open Idealize.ShloMosaic.View (Piece)

variable {sig : RefSig} {κ : Kind} {sp : Space} {e : EltTy} {Val : EltTy → Type} [∀ e, Nonempty (Val e)]

/-- Sixteen rows over 512 rows. -/
def stackRows {α : Type} (P : (⟨2, ![16, 1024]⟩ : Shape).Idx → α) (Q : (⟨2, ![512, 1024]⟩ : Shape).Idx → α)
    (j : (⟨2, ![528, 1024]⟩ : Shape).Idx) : α :=
  if h : (j 0 : ℕ) < 16 then P (ix2 ⟨(j 0 : ℕ), h⟩ (j 1))
  else Q (ix2 ⟨(j 0 : ℕ) - 16, by have : (j 0 : ℕ) < 528 := (j 0).isLt; omega⟩ (j 1))

/-- The whole buffer after the store of its first sixteen rows and of the 512 others. -/
theorem rows_two (v : View sig κ sp (⟨2, ![528, 1024]⟩ : Shape) e)
    (P : (⟨2, ![16, 1024]⟩ : Shape).Idx → Val e) (Q : (⟨2, ![512, 1024]⟩ : Shape).Idx → Val e)
    (inb₁ : ∀ a, (![0, 0] : Fin 2 → Nat) a + (![16, 1024] : Fin 2 → Nat) a ≤ (![528, 1024] : Fin 2 → Nat) a)
    (inb₂ : ∀ a, (![16, 0] : Fin 2 → Nat) a + (![512, 1024] : Fin 2 → Nat) a ≤ (![528, 1024] : Fin 2 → Nat) a)
    (inb₃ : ∀ a, (![0, 0] : Fin 2 → Nat) a + (![528, 1024] : Fin 2 → Nat) a ≤ (![528, 1024] : Fin 2 → Nat) a) :
    v.readCov [(⟨Rect.unit (s := (⟨2, ![528, 1024]⟩ : Shape)) ![0, 0] ![16, 1024] inb₁, P⟩ : Piece Val (⟨2, ![528, 1024]⟩ : Shape) e),
        (⟨Rect.unit (s := (⟨2, ![528, 1024]⟩ : Shape)) ![16, 0] ![512, 1024] inb₂, Q⟩ : Piece Val (⟨2, ![528, 1024]⟩ : Shape) e)]
      (Rect.unit (s := (⟨2, ![528, 1024]⟩ : Shape)) ![0, 0] ![528, 1024] inb₃).toLoadRect
      = stackRows P Q := by
  rw [View.readCov_eq_canon']
  funext j
  have hj : (Rect.unit (s := (⟨2, ![528, 1024]⟩ : Shape)) ![0, 0] ![528, 1024] inb₃).toLoadRect.idx j = j := by
    funext a; apply Fin.ext
    fin_cases a
    · show 0 + 1 * (j 0).val = (j 0).val; omega
    · show 0 + 1 * (j 1).val = (j 1).val; omega
  rw [hj]
  unfold stackRows
  split
  · rename_i h
    have hx : j = (Rect.unit (s := (⟨2, ![528, 1024]⟩ : Shape)) ![0, 0] ![16, 1024] inb₁).emb (ix2 ⟨(j 0 : ℕ), h⟩ (j 1)) := by
      funext a; apply Fin.ext
      fin_cases a
      · show (j 0).val = 0 + 1 * (j 0).val; omega
      · show (j 1).val = 0 + 1 * (j 1).val; omega
    conv_lhs => rw [hx]
    exact View.canon_cons_emb (Rect.unit (s := (⟨2, ![528, 1024]⟩ : Shape)) ![0, 0] ![16, 1024] inb₁) P _ _
  · rename_i h
    have h528 : (j 0 : ℕ) < 528 := (j 0).isLt
    rw [View.canon_cons_of_not_mem]
    · have hx : j = (Rect.unit (s := (⟨2, ![528, 1024]⟩ : Shape)) ![16, 0] ![512, 1024] inb₂).emb (ix2 ⟨(j 0 : ℕ) - 16, by omega⟩ (j 1)) := by
        funext a; apply Fin.ext
        fin_cases a
        · show (j 0).val = 16 + 1 * ((j 0).val - 16); omega
        · show (j 1).val = 0 + 1 * (j 1).val; omega
      conv_lhs => rw [hx]
      exact View.canon_cons_emb (Rect.unit (s := (⟨2, ![528, 1024]⟩ : Shape)) ![16, 0] ![512, 1024] inb₂) Q _ _
    · intro hm
      obtain ⟨x, hx⟩ := LoadRect.exists_idx_of_mem _ hm
      have h0 : 0 + 1 * (x 0).val = (j 0).val := congrArg (fun i => (i 0 : ℕ)) hx
      have h16 : (x 0 : ℕ) < 16 := (x 0).isLt
      omega

/-- A load inside the rectangle that the newest store wrote reads that store. -/
theorem load_within {s : Shape} (v : View sig κ sp s e) (r : Rect s) (P : r.shape.Idx → Val e) (L : List (Piece Val s e))
    (lr : LoadRect r.shape) (h : ∀ a, r.stride a = 1) :
    v.readCov (⟨r, P⟩ :: L) (r.withinL lr h) = fun x => P (lr.idx x) := by
  rw [View.readCov_eq_canon']
  funext x
  exact (congrArg (View.canon _) (Rect.idx_withinL r lr h x)).trans (View.canon_cons_emb r P L (lr.idx x))

section Squeezed

variable (o : ℕ)
    (inb : ∀ a, (![o, 0] : Fin 2 → Nat) a + (![512, 256] : Fin 2 → Nat) a ≤ (![528, 256] : Fin 2 → Nat) a)
    (h0 : (![1, 528, 256] : Fin 3 → Nat) 0 = 1)
    (hs : ∀ i : Fin 2, (![1, 528, 256] : Fin 3 → Nat) i.succ = (![528, 256] : Fin 2 → Nat) i)

/-- Where a load of 512 rows from row `o`, through the view that drops the slot's axis, begins in the slot, and its steps. -/
theorem off_row : ((Rect.unit (s := (⟨2, ![528, 256]⟩ : Shape)) ![o, 0] ![512, 256] inb).toLoadRect.consLift ![1, 528, 256] h0 hs).off 1 = o := rfl
theorem off_col : ((Rect.unit (s := (⟨2, ![528, 256]⟩ : Shape)) ![o, 0] ![512, 256] inb).toLoadRect.consLift ![1, 528, 256] h0 hs).off 2 = 0 := rfl
theorem step_row : ((Rect.unit (s := (⟨2, ![528, 256]⟩ : Shape)) ![o, 0] ![512, 256] inb).toLoadRect.consLift ![1, 528, 256] h0 hs).stride 1 = 1 := rfl
theorem step_col : ((Rect.unit (s := (⟨2, ![528, 256]⟩ : Shape)) ![o, 0] ![512, 256] inb).toLoadRect.consLift ![1, 528, 256] h0 hs).stride 2 = 1 := rfl

end Squeezed

end Cert.Ffn

end
-- ==== Proof.Math.lean ====
/- The feed-forward layer's formulas on the extended reals: the normalisation of one row, the
   gated unit's activation, the causal convolution of width three. -/
module

public import Idealize.ShloMosaic.Lib.Pointwise

@[expose] public section

noncomputable section

namespace Cert.Ffn

open Idealize.ShloMosaic

/-- Entry `k` of a row of 1024 numbers over the root of the row's mean square. -/
def unitRow (x : Fin 1024 → EReal) (k : Fin 1024) : EReal :=
  x k * Ideal.rsqrt (Ideal.div (∑ l, x l * x l) (Ideal.ofBits .f32 0x44800000#32) + Ideal.ofBits .f32 0x358637BD#32)

/-- The activation, by its tanh formula. -/
def gelu (x : EReal) : EReal :=
  Ideal.ofBits .f32 0x3F000000#32 * x
    * (1 + Ideal.tanh (Ideal.ofBits .f32 0x3F4C422A#32 * (x + Ideal.ofBits .f32 0x3D372713#32 * (x * x * x))))

/-- One output of the convolution: the current value `u0` and the two before it. -/
def conv3 (w : Fin 3 → EReal) (b u0 u1 u2 : EReal) : EReal := w 2 * u0 + w 1 * u1 + w 0 * u2 + b

/-- The same sum, the earliest value first. -/
theorem conv3_eq (w : Fin 3 → EReal) (b u0 u1 u2 : EReal) :
    u2 * w 0 + u1 * w 1 + u0 * w 2 + b = conv3 w b u0 u1 u2 := by
  unfold conv3
  generalize w 0 = a0
  generalize w 1 = a1
  generalize w 2 = a2
  ac_rfl

end Cert.Ffn

end
-- ==== Proof.Block.lean ====
/- What one grid point of the FFN kernel computes: 512 rows of the result from the point's rows, the
   two rows before them, and the weights. -/
module

public import proofs.«01_k».proof.Proof.Gen.KernelIdeal.Value
public import proofs.«01_k».proof.Proof.Loads
public import proofs.«01_k».proof.Proof.Math

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)
open Cert.Ffn (unitRow gelu conv3 stackRows)

variable (m : (ℓ : Loc nD τ sig) → Buf (Elt Ideal) ℓ)

/-- Row `r` of the point's 528 normalised rows times column `f` of the up-projection. -/
def up (H : FVec Ideal S528x1024 .bf16) (WU : FVec Ideal S1024x5632 .bf16) (r : Fin 528) (f : Fin 5632) : EReal :=
  ∑ k : Fin 1024, H (ix2 r k) * WU (ix2 k f)

/-- The convolution at row `r` (16 rows stand before the block's first) and column `f`. -/
def conv (H : FVec Ideal S528x1024 .bf16) (WU : FVec Ideal S1024x5632 .bf16) (CW : FVec Ideal S3x5632 .f32)
    (CB : FVec Ideal S1x5632 .f32) (r : Fin 512) (f : Fin 5632) : EReal :=
  conv3 (fun a => CW (ix2 a f)) (CB (ix2 0 f)) (up H WU ⟨16 + r, by omega⟩ f) (up H WU ⟨15 + r, by omega⟩ f)
    (up H WU ⟨14 + r, by omega⟩ f)

/-- The gated unit's output. -/
def act (H : FVec Ideal S528x1024 .bf16) (WU : FVec Ideal S1024x5632 .bf16) (CW : FVec Ideal S3x5632 .f32)
    (CB : FVec Ideal S1x5632 .f32) (r : Fin 512) (f : Fin 2816) : EReal :=
  gelu (conv H WU CW CB r ⟨2816 + f, by omega⟩) * conv H WU CW CB r ⟨f, by omega⟩

/-- The same, its two columns named. -/
theorem act_at (H : FVec Ideal S528x1024 .bf16) (WU : FVec Ideal S1024x5632 .bf16) (CW : FVec Ideal S3x5632 .f32)
    (CB : FVec Ideal S1x5632 .f32) {r r' : Fin 512} (hr : r = r') (f : Fin 2816) (g v : Fin 5632)
    (hg : (g : ℕ) = 2816 + f) (hv : (v : ℕ) = f) :
    act H WU CW CB r f = gelu (conv H WU CW CB r' g) * conv H WU CW CB r' v := by
  subst hr
  unfold act
  exact congrArg₂ (fun a b => gelu (conv H WU CW CB r a) * conv H WU CW CB r b) (Fin.ext hg.symm) (Fin.ext hv.symm)

/-- The block's row `r` times the down-projection's column `d`. -/
def down (H : FVec Ideal S528x1024 .bf16) (WU : FVec Ideal S1024x5632 .bf16) (CW : FVec Ideal S3x5632 .f32)
    (CB : FVec Ideal S1x5632 .f32) (WD : FVec Ideal S2816x1024 .bf16) (r : Fin 512) (d : Fin 1024) : EReal :=
  ∑ f : Fin 2816, act H WU CW CB r f * WD (ix2 f d)

/-- The point's 528 normalised rows: sixteen that stand before the block, zero at a sequence's first block, and the block's own. -/
def rows (c : Dev nD) (t : Fin cfg0.N) : FVec Ideal S528x1024 .bf16 :=
  stackRows (k0_pay6 (F := Ideal) (k0_pay5 (F := Ideal) (iblk m c 2 t) (iblk m c 1 t)) (4#32)
      (Scalar.remsi (BitVec.ofNat 32 ↑(grid0.coords t 0)) 4#32)
      (Scalar.cmpi CmpIPredicate.ne (Scalar.remsi (BitVec.ofNat 32 ↑(grid0.coords t 0)) 4#32) 0#32)
      (Scalar.cmpi CmpIPredicate.slt (Scalar.remsi (BitVec.ofNat 32 ↑(grid0.coords t 0)) 4#32) 0#32))
    (k0_pay4 (F := Ideal) (iblk m c 2 t) (iblk m c 0 t))

set_option maxHeartbeats 2000000 in
/-- The point's result at row `r` and column `d`. -/
theorem out_at (c : Dev nD) (t : Fin cfg0.N) (r : Fin 512) (d : Fin 1024) :
    outsAt0 m c t (ix2 r d) = (show FVec Ideal S512x1024 .f32 from iblk m c 0 t) (ix2 r d)
      + unitRow (fun d => down (rows m c t) (iblk m c 4 t) (iblk m c 5 t) (iblk m c 6 t) (iblk m c 7 t) r d) d
        * (show FVec Ideal S1x1024 .f32 from iblk m c 3 t) (ix2 0 d) := by
  simp only [outsAt0]
  unfold out0_A_8
  frame_open
  simp (disch := decide) only [↓ View.readCov_skip, ↓ View.readCov_cons_toLoadRect, ↓ View.readCov_fill]
  frame_out
  set_option backward.isDefEq.respectTransparency false in
  simp only [Cert.Ffn.rows_two, Cert.Ffn.load_within]
  delta LoadRect.valAlong
  unfold rows
  generalize stackRows _ _ = H
  generalize iblk m c 4 t = WU
  generalize iblk m c 5 t = CW
  generalize iblk m c 6 t = CB
  generalize iblk m c 7 t = WD
  generalize iblk m c 0 t = X
  generalize iblk m c 3 t = G3
  generalize hA : View.readCov (Val := Elt Ideal) (View.whole cc0_scratch2) _ _ = A
  have key : ∀ (r : Fin 512) (f : Fin 2816), A (ix2 r f) = act H WU CW CB r f := by
    intro r f
    subst hA
    rw [View.readCov_eq_canon']
    have hi : (Rect.unit (s := S512x2816) ![0, 0] ![512, 2816] inb_S512x2816_S512x2816_0_0).toLoadRect.idx (ix2 r f) = ix2 r f := by
      funext a; apply Fin.ext
      fin_cases a
      · show 0 + 1 * r.val = r.val; omega
      · show 0 + 1 * f.val = f.val; omega
    refine (congrArg (View.canon _) hi).trans ?_
    canon_tiles x h
    all_goals
      open_payloads
      pointwise [Cert.Ffn.off_row, Cert.Ffn.off_col, Cert.Ffn.step_row, Cert.Ffn.step_col]
      refine Eq.trans ?_ (act_at H WU CW CB (Fin.ext h0) f ?_ ?_ ?_ ?_).symm
      · unfold gelu conv conv3 up
        rfl
      · have h1' : (f : ℕ) = _ := h1
        dsimp only; omega
      · have h1' : (f : ℕ) = _ := h1
        dsimp only; omega
  clear hA
  pointwise [k0_pay1, k0_pay84, k0_pay3, key]
  rfl

end Cert.KernelIdeal.Ffn

end
-- ==== Proof.Layer.lean ====
/- The feed-forward layer token by token: what the result holds for token `s` of sequence `b`, over
   the six arguments. Both programs are read as this. -/
module

public import proofs.«01_k».proof.Proof.Math

@[expose] public section

noncomputable section

namespace Cert.Ffn

open Idealize.ShloMosaic

variable (x : FVec Ideal (⟨3, ![16, 2048, 1024]⟩ : Shape) .f32) (g : FVec Ideal (⟨2, ![4, 1024]⟩ : Shape) .f32)
  (wu : FVec Ideal (⟨2, ![1024, 5632]⟩ : Shape) .f32) (cw : FVec Ideal (⟨2, ![3, 5632]⟩ : Shape) .f32)
  (cb : FVec Ideal (⟨1, ![5632]⟩ : Shape) .f32) (wd : FVec Ideal (⟨2, ![2816, 1024]⟩ : Shape) .f32)

/-- The token's normalised row. -/
def normed (b : Fin 16) (s : Fin 2048) (k : Fin 1024) : EReal := unitRow (fun l => x (ix3 b s l)) k * g (ix2 2 k)

/-- The up-projection of the token `j` places before token `s`, zero where the sequence has none. -/
def upBack (b : Fin 16) (s : Fin 2048) (j : ℕ) (f : Fin 5632) : EReal :=
  if j ≤ (s : ℕ) then ∑ k : Fin 1024, normed x g b ⟨(s : ℕ) - j, by omega⟩ k * wu (ix2 k f) else 0

/-- The convolution along the sequence. -/
def convTok (b : Fin 16) (s : Fin 2048) (f : Fin 5632) : EReal :=
  conv3 (fun a => cw (ix2 a f)) (cb (ix1 f)) (upBack x g wu b s 0 f) (upBack x g wu b s 1 f) (upBack x g wu b s 2 f)

/-- The gated unit: the second half of the columns, activated, times the first. -/
def gated (b : Fin 16) (s : Fin 2048) (f : Fin 2816) : EReal :=
  gelu (convTok x g wu cw cb b s ⟨2816 + f, by omega⟩) * convTok x g wu cw cb b s ⟨f, by omega⟩

/-- The down-projection. -/
def downTok (b : Fin 16) (s : Fin 2048) (d : Fin 1024) : EReal :=
  ∑ f : Fin 2816, gated x g wu cw cb b s f * wd (ix2 f d)

/-- The layer's result for the token: the residual stream plus the normalised down-projection. -/
def layer (b : Fin 16) (s : Fin 2048) (d : Fin 1024) : EReal :=
  x (ix3 b s d) + unitRow (fun d => downTok x g wu cw cb wd b s d) d * g (ix2 3 d)

end Cert.Ffn

end
-- ==== Proof.Rows.lean ====
/- Where a grid point's blocks lie in the arguments, and the rows the point projects: row `16 + i - j`
   of its buffer is the normalised row of the token `j` places before the block's token `i`, and zero
   where the sequence has no such token. -/
module

public import proofs.«01_k».proof.Proof.Block
public import proofs.«01_k».proof.Proof.Layer

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)
open Cert.Ffn (unitRow gelu conv3 stackRows normed)

variable (m : (ℓ : Loc nD τ sig) → Buf (Elt Ideal) ℓ)

/-- Every window's block at every grid point: point `t` has rows `512 t …` of the tokens and the
    sixteen rows before them. -/
theorem idx : ∀ t : Fin cfg0.N, win0_0.index t = ![t.val, 0] ∧ win0_1.index t = ![32 * t.val - 1, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0] ∧ t.val < 64 :=
  (by decide +kernel : ∀ t : Fin grid0.N, _)

/-- The block's number within its sequence, as the body computes it. -/
theorem first : ∀ t : Fin cfg0.N,
    (Scalar.remsi (BitVec.ofNat 32 ↑(grid0.coords t 0)) 4#32) = BitVec.ofNat 32 (t.val % 4) :=
  (by decide +kernel : ∀ t : Fin grid0.N, _)

/-- The rows before the block: kept, but zero at a sequence's first block. -/
theorem pay6_at (P : FVec Ideal S16x1024 .f32) (q : Fin 4) (i : Fin 16) (k : Fin 1024) :
    k0_pay6 (F := Ideal) P (4#32) (BitVec.ofNat 32 q.val) (Scalar.cmpi CmpIPredicate.ne (BitVec.ofNat 32 q.val) 0#32)
      (Scalar.cmpi CmpIPredicate.slt (BitVec.ofNat 32 q.val) 0#32) (ix2 i k) = if q.val = 0 then 0 else P (ix2 i k) := by
  fin_cases q
  all_goals
    pointwise [k0_pay6]
    rfl

/-- The token number of row `r` of block `t`. -/
def tok (t : Fin cfg0.N) (r : Fin 512) : Fin 2048 := ⟨512 * (t.val % 4) + r, by omega⟩
/-- The sequence of block `t`. -/
def seq (t : Fin cfg0.N) : Fin 16 := ⟨t.val / 4, by have := (idx t).2.2.2.2.2.2.2.2.2; omega⟩

abbrev Xa (c : Dev nD) : FVec Ideal S16x2048x1024 .f32 := m ((c : Thread nD τ).loc main_arg0)
abbrev Ga (c : Dev nD) : FVec Ideal S4x1024 .f32 := m ((c : Thread nD τ).loc main_arg1)

theorem x_at (c : Dev nD) (t : Fin cfg0.N) (r : Fin 512) (k : Fin 1024) :
    (show FVec Ideal S512x1024 .f32 from iblk m c 0 t) (ix2 r k) = Xa m c (ix3 (seq t) (tok t r) k) := by
  have := t.isLt
  blk_simp [iblk, idx t]
  entry_read
  pointwise
  blk_ext [idx t, seq, tok]

theorem halo_at (c : Dev nD) (t : Fin cfg0.N) (r : Fin 16) (h : t.val % 4 ≠ 0) (k : Fin 1024) :
    (show FVec Ideal S16x1024 .f32 from iblk m c 1 t) (ix2 r k)
      = Xa m c (ix3 (seq t) ⟨512 * (t.val % 4) + r - 16, by omega⟩ k) := by
  blk_simp [iblk, idx t]
  entry_read
  pointwise
  blk_ext [idx t, seq]

theorem g2_at (c : Dev nD) (t : Fin cfg0.N) (k : Fin 1024) :
    (show FVec Ideal S1x1024 .f32 from iblk m c 2 t) (ix2 0 k) = Ga m c (ix2 2 k) := by
  blk_simp [iblk, idx t]
  entry_read
  pointwise
  blk_ext [idx t]

theorem g3_at (c : Dev nD) (t : Fin cfg0.N) (k : Fin 1024) :
    (show FVec Ideal S1x1024 .f32 from iblk m c 3 t) (ix2 0 k) = Ga m c (ix2 3 k) := by
  blk_simp [iblk, idx t]
  entry_read
  pointwise
  blk_ext [idx t]

theorem wu_at (c : Dev nD) (t : Fin cfg0.N) (k : Fin 1024) (f : Fin 5632) :
    (show FVec Ideal S1024x5632 .bf16 from iblk m c 4 t) (ix2 k f)
      = (show FVec Ideal S1024x5632 .f32 from m ((c : Thread nD τ).loc main_arg2)) (ix2 k f) := by
  blk_simp [iblk, idx t]
  entry_read
  pointwise
  blk_ext [idx t]

theorem cw_at (c : Dev nD) (t : Fin cfg0.N) (k : Fin 3) (f : Fin 5632) :
    (show FVec Ideal S3x5632 .f32 from iblk m c 5 t) (ix2 k f)
      = (show FVec Ideal S3x5632 .f32 from m ((c : Thread nD τ).loc main_arg3)) (ix2 k f) := by
  blk_ext [iblk, V, idx t]

theorem cb_at (c : Dev nD) (t : Fin cfg0.N) (f : Fin 5632) :
    (show FVec Ideal S1x5632 .f32 from iblk m c 6 t) (ix2 0 f)
      = (show FVec Ideal S5632 .f32 from m ((c : Thread nD τ).loc main_arg4)) (ix1 f) := by
  blk_simp [iblk, idx t]
  entry_read
  pointwise
  blk_ext [idx t]

theorem wd_at (c : Dev nD) (t : Fin cfg0.N) (f : Fin 2816) (d : Fin 1024) :
    (show FVec Ideal S2816x1024 .bf16 from iblk m c 7 t) (ix2 f d)
      = (show FVec Ideal S2816x1024 .f32 from m ((c : Thread nD τ).loc main_arg5)) (ix2 f d) := by
  blk_simp [iblk, idx t]
  entry_read
  pointwise
  blk_ext [idx t]

end Cert.KernelIdeal.Ffn

end
-- ==== Proof.Result.lean ====
/- The kernel's result array, token by token: the rows a point projects, the point's result over the
   arguments, and the whole array after the run. -/
module

public import proofs.«01_k».proof.Proof.Rows

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)
open Cert.Ffn (unitRow gelu conv3 stackRows normed upBack convTok gated downTok layer)

variable (m : (ℓ : Loc nD τ sig) → Buf (Elt Ideal) ℓ)

abbrev WUa (c : Dev nD) : FVec Ideal S1024x5632 .f32 := m ((c : Thread nD τ).loc main_arg2)
abbrev CWa (c : Dev nD) : FVec Ideal S3x5632 .f32 := m ((c : Thread nD τ).loc main_arg3)
abbrev CBa (c : Dev nD) : FVec Ideal S5632 .f32 := m ((c : Thread nD τ).loc main_arg4)
abbrev WDa (c : Dev nD) : FVec Ideal S2816x1024 .f32 := m ((c : Thread nD τ).loc main_arg5)

/-- A row of the block, normalised by the body. -/
theorem pay4_at (g : FVec Ideal S1x1024 .f32) (x : FVec Ideal S512x1024 .f32) (r : Fin 512) (k : Fin 1024) :
    k0_pay4 (F := Ideal) g x (ix2 r k) = unitRow (fun l => x (ix2 r l)) k * g (ix2 0 k) := by
  pointwise [k0_pay4, k0_pay3, k0_pay2]
  rfl

/-- A row before the block, normalised by the body. -/
theorem pay5_at (g : FVec Ideal S1x1024 .f32) (x : FVec Ideal S16x1024 .f32) (r : Fin 16) (k : Fin 1024) :
    k0_pay5 (F := Ideal) g x (ix2 r k) = unitRow (fun l => x (ix2 r l)) k * g (ix2 0 k) := by
  pointwise [k0_pay5, k0_pay2]
  rfl

/-- The row `j` places before the block's row `r`. -/
theorem row_at (c : Dev nD) (t : Fin cfg0.N) (r : Fin 512) (j : ℕ) (hj : j ≤ 16) (p : Fin 528) (hp : (p : ℕ) + j = 16 + r)
    (k : Fin 1024) : rows m c t (ix2 p k)
      = if j ≤ (tok t r : ℕ) then normed (Xa m c) (Ga m c) (seq t) ⟨(tok t r : ℕ) - j, by omega⟩ k else 0 := by
  have htok : (tok t r : ℕ) = 512 * (t.val % 4) + r := rfl
  unfold rows stackRows
  by_cases hlt : (p : ℕ) < 16
  · rw [dif_pos (show ((ix2 p k : S528x1024.Idx) 0 : ℕ) < 16 from hlt), first t]
    refine (pay6_at _ ⟨t.val % 4, by omega⟩ ⟨p, hlt⟩ k).trans ?_
    dsimp only
    by_cases h4 : t.val % 4 = 0
    · rw [if_pos h4, if_neg (by omega)]
    · rw [if_neg h4, if_pos (by omega)]
      refine (pay5_at _ _ ⟨p, hlt⟩ k).trans ?_
      unfold normed
      have hp' : (⟨(tok t r : ℕ) - j, by omega⟩ : Fin 2048) = ⟨512 * (t.val % 4) + p - 16, by omega⟩ :=
        Fin.ext (by dsimp only; omega)
      rw [hp']
      exact congrArg₂ (· * ·) (congrArg (fun z => unitRow z k) (funext fun l => halo_at m c t ⟨p, hlt⟩ h4 l)) (g2_at m c t k)
  · rw [dif_neg (show ¬ ((ix2 p k : S528x1024.Idx) 0 : ℕ) < 16 from hlt), if_pos (by omega)]
    have hb : (p : ℕ) - 16 < 512 := by omega
    refine (pay4_at _ _ ⟨(p : ℕ) - 16, hb⟩ k).trans ?_
    unfold normed
    have hp' : (⟨(tok t r : ℕ) - j, by omega⟩ : Fin 2048) = tok t ⟨(p : ℕ) - 16, hb⟩ :=
      Fin.ext (by show _ = 512 * (t.val % 4) + ((p : ℕ) - 16); dsimp only; omega)
    rw [hp']
    exact congrArg₂ (· * ·) (congrArg (fun z => unitRow z k) (funext fun l => x_at m c t ⟨(p : ℕ) - 16, hb⟩ l)) (g2_at m c t k)

/-- Its up-projection. -/
theorem up_at (c : Dev nD) (t : Fin cfg0.N) (r : Fin 512) (j : ℕ) (hj : j ≤ 16) (p : Fin 528) (hp : (p : ℕ) + j = 16 + r)
    (f : Fin 5632) : up (rows m c t) (iblk m c 4 t) p f = upBack (Xa m c) (Ga m c) (WUa m c) (seq t) (tok t r) j f := by
  unfold up upBack
  have h := row_at m c t r j hj p hp
  split
  · rename_i hlt
    exact Finset.sum_congr rfl fun k _ => congrArg₂ (· * ·) ((h k).trans (if_pos hlt)) (wu_at m c t k f)
  · rename_i hlt
    exact Finset.sum_eq_zero fun k _ => (congrArg₂ (· * ·) ((h k).trans (if_neg hlt)) rfl).trans (zero_mul _)

/-- The convolution. -/
theorem conv_at (c : Dev nD) (t : Fin cfg0.N) (r : Fin 512) (f : Fin 5632) :
    conv (rows m c t) (iblk m c 4 t) (iblk m c 5 t) (iblk m c 6 t) r f
      = convTok (Xa m c) (Ga m c) (WUa m c) (CWa m c) (CBa m c) (seq t) (tok t r) f := by
  unfold conv convTok
  rw [up_at m c t r 0 (by omega) _ (by dsimp only; omega) f, up_at m c t r 1 (by omega) _ (by dsimp only; omega) f,
    up_at m c t r 2 (by omega) _ (by dsimp only; omega) f]
  have hw : (fun a => (show FVec Ideal S3x5632 .f32 from iblk m c 5 t) (ix2 a f)) = fun a => CWa m c (ix2 a f) :=
    funext fun a => cw_at m c t a f
  exact congrArg₂ (fun w b => conv3 w b _ _ _) hw (cb_at m c t f)

/-- The down-projection. -/
theorem down_at (c : Dev nD) (t : Fin cfg0.N) (r : Fin 512) (d : Fin 1024) :
    down (rows m c t) (iblk m c 4 t) (iblk m c 5 t) (iblk m c 6 t) (iblk m c 7 t) r d
      = downTok (Xa m c) (Ga m c) (WUa m c) (CWa m c) (CBa m c) (WDa m c) (seq t) (tok t r) d := by
  unfold down downTok act gated
  refine Finset.sum_congr rfl fun f _ => ?_
  rw [conv_at m c t r, conv_at m c t r]
  exact congrArg₂ (· * ·) rfl (wd_at m c t f d)

/-- The point's result over the arguments. -/
theorem point (c : Dev nD) (t : Fin cfg0.N) (r : Fin 512) (d : Fin 1024) :
    outsAt0 m c t (ix2 r d)
      = layer (Xa m c) (Ga m c) (WUa m c) (CWa m c) (CBa m c) (WDa m c) (seq t) (tok t r) d := by
  rw [out_at m c t r d]
  unfold layer
  have hd : (fun d => down (rows m c t) (iblk m c 4 t) (iblk m c 5 t) (iblk m c 6 t) (iblk m c 7 t) r d)
      = fun d => downTok (Xa m c) (Ga m c) (WUa m c) (CWa m c) (CBa m c) (WDa m c) (seq t) (tok t r) d :=
    funext fun d => down_at m c t r d
  rw [hd]
  exact congrArg₂ (· + ·) (x_at m c t r d) (congrArg₂ (· * ·) rfl (g3_at m c t d))

/-- The result array, over the tokens of all sequences one after the other. -/
def result (c : Dev nD) : FVec Ideal S32768x1024 .f32 := fun i =>
  layer (Xa m c) (Ga m c) (WUa m c) (CWa m c) (CBa m c) (WDa m c)
    ⟨(i 0 : ℕ) / 2048, by have : (i 0 : ℕ) < 32768 := (i 0).isLt; omega⟩ ⟨(i 0 : ℕ) % 2048, by omega⟩ (i 1)

/-- The array after the run. -/
theorem final (c : Dev nD) : (dats m 0 c).arrAt 8 cfg0.N = result m c := by
  refine (dats m 0 c).arrAt_eq_of_covers 8 _ (by decide +kernel) fun t _ y => ?_
  blk_simp
  rw [after0_8]
  idx_vars y
  refine (point m c t _ _).trans ?_
  have ht := (idx t).2.2.2.2.2.2.2.2
  have hy : (((cfg0.win 8).blk t).view.emb (ix2 y0 y1) : S32768x1024.Idx) = ix2 ⟨512 * t.val + y0, by omega⟩ y1 := by
    blk_ext [idx t]
  refine Eq.trans ?_ (congrArg (result m c) hy).symm
  unfold result
  have hb : seq t = ⟨(512 * t.val + (y0 : ℕ)) / 2048, by omega⟩ := Fin.ext (by show t.val / 4 = _; dsimp only; omega)
  have hs : tok t y0 = ⟨(512 * t.val + (y0 : ℕ)) % 2048, by omega⟩ :=
    Fin.ext (by show 512 * (t.val % 4) + (y0 : ℕ) = _; dsimp only; omega)
  rw [hb, hs]
  rfl

end Cert.KernelIdeal.Ffn

end
-- ==== Proof.Reference.lean ====
/- The reference's result, token by token. -/
module

public import proofs.«01_k».proof.Proof.Gen.ReferenceIdeal.Read
public import proofs.«01_k».proof.Proof.Layer

@[expose] public section

set_option maxRecDepth 16384

noncomputable section

namespace Cert.ReferenceIdeal.Ffn

open Cert.ReferenceIdeal Cert.ReferenceIdeal.Gen Cert.ReferenceIdeal.Read Idealize.ShloMosaic
open Cert.Ffn (unitRow gelu conv3 conv3_eq normed upBack convTok gated downTok layer)

variable (x : FVec Ideal S16x2048x1024 .f32) (g : FVec Ideal S4x1024 .f32) (wu : FVec Ideal S1024x5632 .f32)
  (cw : FVec Ideal S3x5632 .f32) (cb : FVec Ideal S5632 .f32) (wd : FVec Ideal S2816x1024 .f32)

/-- The normalised row. -/
theorem v14_at (b : Fin 16) (s : Fin 2048) (k : Fin 1024) :
    val_main_v14 (F := Ideal) x g (ix3 b s k) = normed x g b s k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  unfold normed unitRow
  rfl

/-- The up-projection behind two rows of zeros. -/
theorem v16_at (b : Fin 16) (s : Fin 2048) (j : ℕ) (hj : j ≤ 2) (p : Fin 2050) (hp : (p : ℕ) + j = s + 2) (f : Fin 5632) :
    val_main_v16 (F := Ideal) x g wu (ix3 b p f) = upBack x g wu b s j f := by
  pointwise [val_main_v16, val_main_call0_v0, val_main_v15, val_main_c, v14_at]
  unfold upBack
  split
  · rename_i h
    rw [if_pos (by omega)]
    have e : (⟨(p : ℕ) - 2, by omega⟩ : Fin 2048) = ⟨(s : ℕ) - j, by omega⟩ := Fin.ext (by dsimp only; omega)
    rw [e]
  · rename_i h
    rw [if_neg (by omega)]
    show ((((0#32 : BitVec 32).toInt : ℤ) : ℝ) : EReal) = 0
    simp

/-- The convolution. -/
theorem v39_at (b : Fin 16) (s : Fin 2048) (f : Fin 5632) :
    val_main_v39 (F := Ideal) x g wu cw cb (ix3 b s f) = convTok x g wu cw cb b s f := by
  pointwise [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39]
  unfold convTok
  rw [v16_at x g wu b s 2 (by omega) _ (by dsimp only) f, v16_at x g wu b s 1 (by omega) _ (by dsimp only; omega) f,
    v16_at x g wu b s 0 (by omega) _ (by dsimp only; omega) f]
  exact conv3_eq (fun a => cw (ix2 a f)) _ _ _ _

/-- The gated unit. -/
theorem v55_at (b : Fin 16) (s : Fin 2048) (f : Fin 2816) :
    val_main_v55 (F := Ideal) x g wu cw cb (ix3 b s f) = gated x g wu cw cb b s f := by
  pointwise [val_main_v40, val_main_v41, val_main_v42, val_main_v43, val_main_v44, val_main_v45, val_main_v46, val_main_v47, val_main_v48, val_main_v49, val_main_v50, val_main_v51, val_main_v52, val_main_v53, val_main_v54, val_main_v55, val_main_cst_2, val_main_cst_3, val_main_cst_4, val_main_cst_5, v39_at]
  unfold gated gelu
  rw [← mul_assoc, mul_comm (convTok x g wu cw cb b s _) (Ideal.ofBits .f32 0x3F000000#32)]

/-- The down-projection. -/
theorem v56_at (b : Fin 16) (s : Fin 2048) (d : Fin 1024) :
    val_main_v56 (F := Ideal) x g wu cw cb wd (ix3 b s d) = downTok x g wu cw cb wd b s d := by
  pointwise [val_main_v56, v55_at]
  rfl

/-- The reference's result at a token. -/
theorem at_token (b : Fin 16) (s : Fin 2048) (d : Fin 1024) :
    val_main_v72 (F := Ideal) x g wu cw cb wd (ix3 b s d) = layer x g wu cw cb wd b s d := by
  pointwise [val_main_v57, val_main_v58, val_main_v59, val_main_v60, val_main_v61, val_main_v62, val_main_v63, val_main_v64, val_main_v65, val_main_v66, val_main_v67, val_main_v68, val_main_v69, val_main_v70, val_main_v71, val_main_v72, val_main_cst_6, val_main_cst_7, val_main_cst_8, v56_at]
  unfold layer unitRow
  rfl

/-- The reference's result array. -/
theorem v73_at (i : S32768x1024.Idx) : val_main_v73 (F := Ideal) x g wu cw cb wd i
    = layer x g wu cw cb wd ⟨(i 0 : ℕ) / 2048, by have : (i 0 : ℕ) < 32768 := (i 0).isLt; omega⟩
      ⟨(i 0 : ℕ) % 2048, by omega⟩ (i 1) := by
  idx_vars i
  refine Eq.trans ?_ (at_token x g wu cw cb wd _ _ _)
  pointwise [val_main_v73]

end Cert.ReferenceIdeal.Ffn

end
-- ==== Proof.OutLayer.lean ====
/- A mixer's output projection, token by token: the residual stream plus the normalised product of the
   attention's row with the weights. Both programs are read as this. -/
module

public import proofs.«01_k».proof.Proof.Math

@[expose] public section

noncomputable section

namespace Cert.Mixer

open Idealize.ShloMosaic
open Cert.Ffn (unitRow)

/-- The result for token `s` of sequence `b`. -/
def outTok (a : FVec Ideal (⟨3, ![16, 2048, 1024]⟩ : Shape) .bf16) (x : FVec Ideal (⟨3, ![16, 2048, 1024]⟩ : Shape) .f32)
    (g : FVec Ideal (⟨2, ![4, 1024]⟩ : Shape) .f32) (w : FVec Ideal (⟨2, ![1024, 1024]⟩ : Shape) .f32)
    (b : Fin 16) (s : Fin 2048) (d : Fin 1024) : EReal :=
  x (ix3 b s d) + unitRow (fun d => ∑ k : Fin 1024, a (ix3 b s k) * w (ix2 k d)) d * g (ix2 1 d)

end Cert.Mixer

end
-- ==== Proof.OutResult.lean ====
/- The output projection's kernel: one grid point's 512 rows, and the result array after the run. -/
module

public import proofs.«01_k».proof.Proof.Gen.OutIdeal.Value
public import proofs.«01_k».proof.Proof.OutLayer
public import Idealize.ShloMosaic.Lib.Pipeline.ValueKit

@[expose] public section

set_option maxRecDepth 16384

noncomputable section

namespace Cert.OutIdeal.Tok

open Cert.OutIdeal Cert.OutIdeal.Gen Idealize.ShloMosaic Idealize.ShloMosaic.TcCoe Idealize.SL.Sem
open Idealize.ShloMosaic.Pipeline (Dat)
open Cert.Ffn (unitRow)
open Cert.Mixer (outTok)

variable (m : (ℓ : Loc nD τ sig) → Buf (Elt Ideal) ℓ)

/-- Every window's block at every grid point: point `t` has rows `512 t …` of the tokens. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ t.val < 64 :=
  (by decide +kernel : ∀ t : Fin grid0.N, _)

/-- The token number of row `r` of block `t`. -/
def tok (t : Fin cfg0.N) (r : Fin 512) : Fin 2048 := ⟨512 * (t.val % 4) + r, by omega⟩
/-- The sequence of block `t`. -/
def seq (t : Fin cfg0.N) : Fin 16 := ⟨t.val / 4, by have := (idx t).2.2.2.2.2; omega⟩

abbrev Aa (c : Dev nD) : FVec Ideal S16x2048x1024 .bf16 := m ((c : Thread nD τ).loc main_arg0)
abbrev Xa (c : Dev nD) : FVec Ideal S16x2048x1024 .f32 := m ((c : Thread nD τ).loc main_arg1)
abbrev Ga (c : Dev nD) : FVec Ideal S4x1024 .f32 := m ((c : Thread nD τ).loc main_arg2)
abbrev Wa (c : Dev nD) : FVec Ideal S1024x1024 .f32 := m ((c : Thread nD τ).loc main_arg3)

theorem a_at (c : Dev nD) (t : Fin cfg0.N) (r : Fin 512) (k : Fin 1024) :
    (show FVec Ideal S512x1024 .bf16 from iblk m c 0 t) (ix2 r k) = Aa m c (ix3 (seq t) (tok t r) k) := by
  have := t.isLt
  blk_simp [iblk, idx t]
  entry_read
  pointwise
  blk_ext [idx t, seq, tok]

theorem w_at (c : Dev nD) (t : Fin cfg0.N) (k d : Fin 1024) :
    (show FVec Ideal S1024x1024 .bf16 from iblk m c 1 t) (ix2 k d) = Wa m c (ix2 k d) := by
  blk_simp [iblk, idx t]
  entry_read
  pointwise
  blk_ext [idx t]

theorem x_at (c : Dev nD) (t : Fin cfg0.N) (r : Fin 512) (k : Fin 1024) :
    (show FVec Ideal S512x1024 .f32 from iblk m c 2 t) (ix2 r k) = Xa m c (ix3 (seq t) (tok t r) k) := by
  have := t.isLt
  blk_simp [iblk, idx t]
  entry_read
  pointwise
  blk_ext [idx t, seq, tok]

theorem g_at (c : Dev nD) (t : Fin cfg0.N) (k : Fin 1024) :
    (show FVec Ideal S1x1024 .f32 from iblk m c 3 t) (ix2 0 k) = Ga m c (ix2 1 k) := by
  blk_simp [iblk, idx t]
  entry_read
  pointwise
  blk_ext [idx t]

/-- What the body stores, from its four blocks. -/
theorem pay_at (A : FVec Ideal S512x1024 .bf16) (W : FVec Ideal S1024x1024 .bf16) (X : FVec Ideal S512x1024 .f32)
    (G : FVec Ideal S1x1024 .f32) (r : Fin 512) (d : Fin 1024) : k0_pay1 (F := Ideal) A W X G (ix2 r d)
      = X (ix2 r d) + unitRow (fun d => ∑ k : Fin 1024, A (ix2 r k) * W (ix2 k d)) d * G (ix2 0 d) := by
  pointwise [k0_pay1]
  rfl

/-- The point's result over the arguments. -/
theorem point (c : Dev nD) (t : Fin cfg0.N) (r : Fin 512) (d : Fin 1024) :
    out0_4 (iblk m c 0 t) (iblk m c 1 t) (iblk m c 2 t) (iblk m c 3 t) (ix2 r d)
      = outTok (Aa m c) (Xa m c) (Ga m c) (Wa m c) (seq t) (tok t r) d := by
  unfold out0_4
  frame_out
  refine (pay_at _ _ _ _ r d).trans ?_
  unfold outTok
  refine congrArg₂ (· + ·) (x_at m c t r d) (congrArg₂ (· * ·) (congrArg (fun z => unitRow z d) (funext fun d => ?_)) (g_at m c t d))
  exact Finset.sum_congr rfl fun k _ => congrArg₂ (· * ·) (a_at m c t r k) (w_at m c t k d)

/-- The result array, over the tokens of all sequences one after the other. -/
def result (c : Dev nD) : FVec Ideal S32768x1024 .f32 := fun i =>
  outTok (Aa m c) (Xa m c) (Ga m c) (Wa m c)
    ⟨(i 0 : ℕ) / 2048, by have : (i 0 : ℕ) < 32768 := (i 0).isLt; omega⟩ ⟨(i 0 : ℕ) % 2048, by omega⟩ (i 1)

/-- The array after the run. -/
theorem final (c : Dev nD) : (dats m 0 c).arrAt 4 cfg0.N = result m c := by
  refine (dats m 0 c).arrAt_eq_of_covers 4 _ (by decide +kernel) fun t _ y => ?_
  blk_simp
  rw [after0_4]
  idx_vars y
  refine (point m c t _ _).trans ?_
  have ht := (idx t).2.2.2.2.2
  have hy : (((cfg0.win 4).blk t).view.emb (ix2 y0 y1) : S32768x1024.Idx) = ix2 ⟨512 * t.val + y0, by omega⟩ y1 := by
    blk_ext [idx t]
  refine Eq.trans ?_ (congrArg (result m c) hy).symm
  unfold result
  have hb : seq t = ⟨(512 * t.val + (y0 : ℕ)) / 2048, by omega⟩ := Fin.ext (by show t.val / 4 = _; dsimp only; omega)
  have hs : tok t y0 = ⟨(512 * t.val + (y0 : ℕ)) % 2048, by omega⟩ :=
    Fin.ext (by show 512 * (t.val % 4) + (y0 : ℕ) = _; dsimp only; omega)
  rw [hb, hs]
  rfl

end Cert.OutIdeal.Tok

end
-- ==== Proof.OutReference.lean ====
/- The output projection's reference, token by token. -/
module

public import proofs.«01_k».proof.Proof.Gen.OutRefIdeal.Read
public import proofs.«01_k».proof.Proof.OutLayer

@[expose] public section

set_option maxRecDepth 16384

noncomputable section

namespace Cert.OutRefIdeal.Tok

open Cert.OutRefIdeal Cert.OutRefIdeal.Gen Cert.OutRefIdeal.Read Idealize.ShloMosaic
open Cert.Ffn (unitRow)
open Cert.Mixer (outTok)

variable (a : FVec Ideal S16x2048x1024 .bf16) (x : FVec Ideal S16x2048x1024 .f32) (g : FVec Ideal S4x1024 .f32)
  (w : FVec Ideal S1024x1024 .f32)

/-- The reference's result at a token. -/
theorem at_token (b : Fin 16) (s : Fin 2048) (d : Fin 1024) :
    val_main_v17 (F := Ideal) a x g w (ix3 b s d) = outTok a x g w b s d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  unfold outTok unitRow
  rfl

/-- The reference's result array. -/
theorem v18_at (i : S32768x1024.Idx) : val_main_v18 (F := Ideal) a x g w i
    = outTok a x g w ⟨(i 0 : ℕ) / 2048, by have : (i 0 : ℕ) < 32768 := (i 0).isLt; omega⟩
      ⟨(i 0 : ℕ) % 2048, by omega⟩ (i 1) := by
  idx_vars i
  refine Eq.trans ?_ (at_token a x g w _ _ _)
  pointwise [val_main_v18]

end Cert.OutRefIdeal.Tok

end
-- ==== Proof.Rope.lean ====
/- The rotation of pairs of columns by a position's angle, as the kernels compute it on 128 columns at
   once: two heads of 64, each column paired with the one 32 places on or back. -/
module

public import Idealize.ShloMosaic.Lib.Pointwise
public import Idealize.ShloMosaic.Lib.Pipeline.ValueKit

@[expose] public section

set_option maxRecDepth 16384

noncomputable section

namespace Cert.Mixer

open Idealize.ShloMosaic

/-- Rows of 128 columns. -/
abbrev Slab (n : ℕ) : Shape := ⟨2, ![n, 128]⟩

/-- The column's partner within its head. -/
def partner (l : Fin 128) : Fin 128 := if h : (l : ℕ) % 64 < 32 then ⟨l + 32, by omega⟩ else ⟨l - 32, by omega⟩

/-- The length of a head, as the kernels name it. -/
abbrev headLen : BitVec 32 := Scalar.select (Scalar.cmpi .eq 64#32 0#32) 1#32 64#32

/-- Whether a column stands in the first half of its head, as the kernels compute it. -/
def firstHalf {n : ℕ} (hi : (Slab n).Iotas Kind.tc 32 [1]) (hb : (Slab n).Broadcasts (Slab n)) : IVec (Slab n) 1 :=
  cmpi .slt (select
      (andi (xori (cmpi .slt (remsi (iota .tc (Slab n) 32 [1] hi) (broadcast (Slab n) headLen)) (broadcast (Slab n) 0#32))
          (broadcastTo (Slab n) (broadcast (Slab n) (Scalar.cmpi .slt headLen 0#32)) hb))
        (cmpi .ne (remsi (iota .tc (Slab n) 32 [1] hi) (broadcast (Slab n) headLen)) (broadcast (Slab n) 0#32)))
      (addi (remsi (iota .tc (Slab n) 32 [1] hi) (broadcast (Slab n) headLen)) (broadcast (Slab n) headLen))
      (remsi (iota .tc (Slab n) 32 [1] hi) (broadcast (Slab n) headLen))) (broadcast (Slab n) 32#32)

/-- The same for one column. -/
def firstHalfCol (l : ℕ) : BitVec 1 :=
  IntOp.cmpi .slt (Scalar.select
      (IntOp.andi (IntOp.xori (IntOp.cmpi .slt (IntOp.remsi .vector (BitVec.ofNat 32 l) headLen) 0#32) (Scalar.cmpi .slt headLen 0#32))
        (IntOp.cmpi .ne (IntOp.remsi .vector (BitVec.ofNat 32 l) headLen) 0#32))
      (IntOp.addi (IntOp.remsi .vector (BitVec.ofNat 32 l) headLen) headLen)
      (IntOp.remsi .vector (BitVec.ofNat 32 l) headLen)) 32#32

theorem firstHalfCol_eq : ∀ l : Fin 128, firstHalfCol l = if (l : ℕ) % 64 < 32 then 1 else 0 := by decide +kernel

/-- A rotation of the columns by `k`, read at an entry. -/
theorem turn_at {n : ℕ} (hr : (Slab n).Rotates 1 none) (x : FVec Ideal (Slab n) .f32) (k : ℕ) (hk : k < 128) (r : Fin n) (l : Fin 128) :
    dynamicRotate 1 (BitVec.ofNat 32 k) none x hr (ix2 r l) = x (ix2 r ⟨((l : ℕ) + 128 - k) % 128, by omega⟩) := by
  rw [Pointwise.dynamicRotate_apply, Shape.Idx.norm_def]
  refine congrArg x (funext fun b => Fin.ext ?_)
  have h : (BitVec.ofNat 32 k).toNat = k := by rw [BitVec.toNat_ofNat]; omega
  match b with
  | ⟨0, _⟩ => rfl
  | ⟨1, _⟩ =>
    show ((l : ℕ) + 128 - (BitVec.ofNat 32 k).toNat % 128) % 128 = ((l : ℕ) + 128 - k) % 128
    rw [h, Nat.mod_eq_of_lt hk]

/-- The rotation of a slab. -/
def ropeSlab {n : ℕ} (hi : (Slab n).Iotas Kind.tc 32 [1]) (hb : (Slab n).Broadcasts (Slab n)) (hr : (Slab n).Rotates 1 none)
    (x c s : FVec Ideal (Slab n) .f32) : FVec Ideal (Slab n) .f32 :=
  addf (mulf x c) (mulf (select (firstHalf hi hb) (dynamicRotate 1 96#32 none x hr) (dynamicRotate 1 32#32 none x hr)) s)

theorem firstHalf_at {n : ℕ} (hi : (Slab n).Iotas Kind.tc 32 [1]) (hb : (Slab n).Broadcasts (Slab n)) (r : Fin n) (l : Fin 128) :
    firstHalf hi hb (ix2 r l) = firstHalfCol l := by
  pointwise [firstHalf]
  rfl

/-- The rotation, entry by entry. -/
theorem ropeSlab_at {n : ℕ} (hi hb hr) (x c s : FVec Ideal (Slab n) .f32) (r : Fin n) (l : Fin 128) :
    ropeSlab hi hb hr x c s (ix2 r l) = x (ix2 r l) * c (ix2 r l) + x (ix2 r (partner l)) * s (ix2 r l) := by
  have h : ropeSlab hi hb hr x c s (ix2 r l) = x (ix2 r l) * c (ix2 r l)
      + Scalar.select (firstHalf hi hb (ix2 r l)) (dynamicRotate 1 (BitVec.ofNat 32 96) none x hr (ix2 r l))
          (dynamicRotate 1 (BitVec.ofNat 32 32) none x hr (ix2 r l)) * s (ix2 r l) := rfl
  rw [turn_at hr x 96 (by omega) r l, turn_at hr x 32 (by omega) r l, firstHalf_at] at h
  rw [h, firstHalfCol_eq]
  unfold partner
  split
  · rename_i hl
    refine congrArg₂ (· + ·) rfl (congrArg₂ (· * ·) ((if_pos rfl).trans (congrArg x ?_)) rfl)
    exact congrArg (ix2 r) (Fin.ext (by dsimp only; omega))
  · rename_i hl
    refine congrArg₂ (· + ·) rfl (congrArg₂ (· * ·) ((if_neg (by decide)).trans (congrArg x ?_)) rfl)
    exact congrArg (ix2 r) (Fin.ext (by dsimp only; omega))

/-- Whether a column stands in the first 64. -/
theorem low_eq : ∀ l : Fin 128, IntOp.cmpi .slt (BitVec.ofNat 32 l) 64#32 = if (l : ℕ) < 64 then 1 else 0 := by decide +kernel

/-- The first 64 columns, as the kernels mark them. -/
def lowCols {n : ℕ} (hi : (Slab n).Iotas Kind.tc 32 [1]) : IVec (Slab n) 1 := cmpi .slt (iota .tc (Slab n) 32 [1] hi) (broadcast (Slab n) 64#32)

theorem lowCols_at {n : ℕ} (hi : (Slab n).Iotas Kind.tc 32 [1]) (r : Fin n) (l : Fin 128) :
    lowCols hi (ix2 r l) = if (l : ℕ) < 64 then 1 else 0 := by
  rw [← low_eq l]
  pointwise [lowCols]

/-- A choice between two slabs by the half a column stands in. -/
theorem pick_at {n : ℕ} (hi : (Slab n).Iotas Kind.tc 32 [1]) (x y : FVec Ideal (Slab n) .f32) (r : Fin n) (l : Fin 128) :
    select (lowCols hi) x y (ix2 r l) = if (l : ℕ) < 64 then x (ix2 r l) else y (ix2 r l) := by
  have h : select (lowCols hi) x y (ix2 r l) = Scalar.select (lowCols hi (ix2 r l)) (x (ix2 r l)) (y (ix2 r l)) := rfl
  rw [h, lowCols_at]
  split
  · exact if_pos rfl
  · exact if_neg (by decide)

/-- The other half's column, by a rotation by 64. -/
theorem swap_at {n : ℕ} (hr : (Slab n).Rotates 1 none) (x : FVec Ideal (Slab n) .f32) (r : Fin n) (l : Fin 128) :
    dynamicRotate 1 64#32 none x hr (ix2 r l) = x (ix2 r ⟨((l : ℕ) + 64) % 128, by omega⟩) :=
  (turn_at hr x 64 (by omega) r l).trans (congrArg x (congrArg (ix2 r) (Fin.ext (by dsimp only; omega))))

/-- The first half twice. -/
theorem twice_at {n : ℕ} (hi : (Slab n).Iotas Kind.tc 32 [1]) (hr : (Slab n).Rotates 1 none) (x : FVec Ideal (Slab n) .f32) (r : Fin n) (l : Fin 128) :
    select (lowCols hi) x (dynamicRotate 1 64#32 none x hr) (ix2 r l) = x (ix2 r ⟨(l : ℕ) % 64, by omega⟩) := by
  rw [pick_at, swap_at]
  split
  · exact congrArg x (congrArg (ix2 r) (Fin.ext (by dsimp only; omega)))
  · exact congrArg x (congrArg (ix2 r) (Fin.ext (by dsimp only; omega)))

/-- The second half twice. -/
theorem twice_high_at {n : ℕ} (hi : (Slab n).Iotas Kind.tc 32 [1]) (hr : (Slab n).Rotates 1 none) (x : FVec Ideal (Slab n) .f32) (r : Fin n) (l : Fin 128) :
    select (lowCols hi) (dynamicRotate 1 64#32 none x hr) x (ix2 r l) = x (ix2 r ⟨64 + (l : ℕ) % 64, by omega⟩) := by
  rw [pick_at, swap_at]
  split
  · exact congrArg x (congrArg (ix2 r) (Fin.ext (by dsimp only; omega)))
  · exact congrArg x (congrArg (ix2 r) (Fin.ext (by dsimp only; omega)))

end Cert.Mixer

end
-- ==== Proof.InLayer.lean ====
/- What the mixers' input projections compute, token by token: the projection of the normalised row, the
   rotation of a head's columns by the token's position, and the two families of results. The kernels and
   their references are read as these. -/
module

public import proofs.«01_k».proof.Proof.Math
public import proofs.«01_k».proof.Proof.Rope

@[expose] public section

noncomputable section

namespace Cert.Mixer

open Idealize.ShloMosaic
open Cert.Ffn (unitRow)

/-- Feature `f` of token `s` of sequence `b`: the normalised row, scaled by the gains, against a column of the weights. -/
def projTok {n : ℕ} (x : FVec Ideal (⟨3, ![16, 2048, 1024]⟩ : Shape) .f32) (g : FVec Ideal (⟨2, ![4, 1024]⟩ : Shape) .f32)
    (w : FVec Ideal (⟨2, ![1024, n]⟩ : Shape) .f32) (b : Fin 16) (s : Fin 2048) (f : Fin n) : EReal :=
  ∑ k : Fin 1024, unitRow (fun d => x (ix3 b s d)) k * g (ix2 0 k) * w (ix2 k f)

/-- The angle of pair `j` at position `s`. -/
def angle (s j : ℕ) : EReal :=
  FloatOps.sitofp (F := Ideal) FTy.f32 (BitVec.ofNat 32 s)
    * Ideal.pow (Ideal.ofBits FTy.f32 0x461C4000#32)
        (Ideal.div (-FloatOps.sitofp (F := Ideal) FTy.f32 (BitVec.ofNat 32 j)) (Ideal.ofBits FTy.f32 0x42000000#32))

/-- Column `j` of a head after the rotation: columns `j` and `j + 32` are turned as a pair. -/
def ropeAt (p : Fin 64 → EReal) (s : ℕ) (j : Fin 64) : EReal :=
  if h : (j : ℕ) < 32 then p j * Ideal.cos (angle s j) - p ⟨j + 32, by omega⟩ * Ideal.sin (angle s j)
  else p j * Ideal.cos (angle s (j - 32)) + p ⟨j - 32, by omega⟩ * Ideal.sin (angle s (j - 32))

/-- The turned head, each half written through both halves of the head. -/
theorem ropeAt_halves (p : Fin 64 → EReal) (s : ℕ) (j : Fin 64) :
    (if h : (j : ℕ) < 32 then p j * Ideal.cos (angle s j) - p ⟨32 + j, by omega⟩ * Ideal.sin (angle s j)
      else p ⟨32 + (j - 32), by omega⟩ * Ideal.cos (angle s (j - 32)) + p ⟨j - 32, by omega⟩ * Ideal.sin (angle s (j - 32)))
      = ropeAt p s j := by
  unfold ropeAt
  split
  · exact congrArg (_ - ·) (congrArg (· * _) (congrArg p (Fin.ext (by dsimp only; omega))))
  · exact congrArg (· + _) (congrArg (· * _) (congrArg p (Fin.ext (by dsimp only; omega))))

/-- The kernels' cosine table. -/
def cosTab (s l : ℕ) : EReal := Ideal.cos (angle s (l % 32))
/-- The kernels' sine table: the first half of each head negated. -/
def sinTab (s l : ℕ) : EReal := if l % 64 < 32 then -Ideal.sin (angle s (l % 64)) else Ideal.sin (angle s (l % 64 - 32))

/-- Two heads side by side, turned through the tables. -/
theorem rope_turn (x : Fin 128 → EReal) (s : ℕ) (l : Fin 128) :
    x l * cosTab s l + x (partner l) * sinTab s l
      = ropeAt (fun j => x ⟨64 * (l / 64) + j, by omega⟩) s ⟨l % 64, by omega⟩ := by
  have hl : (⟨64 * ((l : ℕ) / 64) + (l : ℕ) % 64, by omega⟩ : Fin 128) = l := Fin.ext (by dsimp only; omega)
  unfold ropeAt cosTab sinTab partner
  dsimp only
  rw [hl]
  split
  · rename_i h
    have e : (l : ℕ) % 32 = (l : ℕ) % 64 := by omega
    have hp : (⟨64 * ((l : ℕ) / 64) + ((l : ℕ) % 64 + 32), by omega⟩ : Fin 128) = ⟨l + 32, by omega⟩ := Fin.ext (by dsimp only; omega)
    rw [hp, e, mul_neg, sub_eq_add_neg]
  · rename_i h
    have e : (l : ℕ) % 32 = (l : ℕ) % 64 - 32 := by omega
    have hp : (⟨64 * ((l : ℕ) / 64) + ((l : ℕ) % 64 - 32), by omega⟩ : Fin 128) = ⟨l - 32, by omega⟩ := Fin.ext (by dsimp only; omega)
    rw [hp, e]

/-- A slab turned through the tables' blocks: what the kernels do with two heads. -/
theorem ropeSlab_tab {n : ℕ} (hi hb hr) (x c s : FVec Ideal (Slab n) .f32) (r : Fin n) (l : Fin 128) (p : ℕ)
    (hc : ∀ l : Fin 128, c (ix2 r l) = cosTab p l) (hs : ∀ l : Fin 128, s (ix2 r l) = sinTab p l) :
    ropeSlab hi hb hr x c s (ix2 r l) = ropeAt (fun j => x (ix2 r ⟨64 * (l / 64) + j, by omega⟩)) p ⟨l % 64, by omega⟩ := by
  rw [ropeSlab_at, hc, hs]
  exact rope_turn (fun l => x (ix2 r l)) p l

/-- Columns `o …` of a block of projected rows, turned, at the place of the result where they are stored. -/
theorem rope_cols {n N : ℕ} (P : FVec Ideal (⟨2, ![n, N]⟩ : Shape) .f32) (c s : FVec Ideal (Slab n) .f32) {hi hb hr} {o : ℕ}
    {h : (⟨2, ![n, N]⟩ : Shape).Slices ![0, o] (Slab n)} (r : Fin n) (p : ℕ)
    (hc : ∀ l : Fin 128, c (ix2 r l) = cosTab p l) (hs : ∀ l : Fin 128, s (ix2 r l) = sinTab p l)
    (base d off : ℕ) (hd : base + 64 * (d / 64) + 64 ≤ N) (x : (Slab n).Idx) (h0 : (r : ℕ) = x 0) (h1 : d = off + x 1)
    (ho : o = base + off) (h64 : off % 64 = 0) :
    ropeSlab hi hb hr (extractStridedSlice (Slab n) ![0, o] P h) c s x
      = ropeAt (fun j => P (ix2 r ⟨base + 64 * (d / 64) + j, by omega⟩)) p ⟨d % 64, by omega⟩ := by
  have hx1 : (x 1 : ℕ) < 128 := (x 1).isLt
  have hx : x = ix2 r ⟨x 1, hx1⟩ := by
    funext a
    match a with
    | ⟨0, _⟩ => exact Fin.ext h0.symm
    | ⟨1, _⟩ => rfl
  refine (congrArg (ropeSlab hi hb hr (extractStridedSlice (Slab n) ![0, o] P h) c s) hx).trans ?_
  rw [ropeSlab_tab hi hb hr _ c s r _ p hc hs]
  have hj : (⟨(x 1 : ℕ) % 64, by omega⟩ : Fin 64) = ⟨d % 64, by omega⟩ := Fin.ext (by dsimp only; omega)
  show ropeAt _ p ⟨(x 1 : ℕ) % 64, _⟩ = _
  rw [hj]
  refine congrArg (fun q => ropeAt q p _) (funext fun j => congrArg P (funext fun a => Fin.ext ?_))
  match a with
  | ⟨0, _⟩ => show 0 + (r : ℕ) = r; omega
  | ⟨1, _⟩ => show o + (64 * ((x 1 : ℕ) / 64) + (j : ℕ)) = base + 64 * (d / 64) + (j : ℕ); omega

/-- The same, scaled, as the store's payload has it. -/
theorem rope_cols_scaled {n N : ℕ} (P : FVec Ideal (⟨2, ![n, N]⟩ : Shape) .f32) (c s : FVec Ideal (Slab n) .f32) {hi hb hr} {o : ℕ}
    {h : (⟨2, ![n, N]⟩ : Shape).Slices ![0, o] (Slab n)} {e : BitVec 32} {hbits} (r : Fin n) (p : ℕ)
    (hc : ∀ l : Fin 128, c (ix2 r l) = cosTab p l) (hs : ∀ l : Fin 128, s (ix2 r l) = sinTab p l)
    (base d off : ℕ) (hd : base + 64 * (d / 64) + 64 ≤ N) (x : (Slab n).Idx) (h0 : (r : ℕ) = x 0) (h1 : d = off + x 1)
    (ho : o = base + off) (h64 : off % 64 = 0) :
    truncf .bf16 (mulf (ropeSlab hi hb hr (extractStridedSlice (Slab n) ![0, o] P h) c s)
        (broadcast (Slab n) (Scalar.ofBits (F := Ideal) .f32 e))) hbits x
      = ropeAt (fun j => P (ix2 r ⟨base + 64 * (d / 64) + j, by omega⟩)) p ⟨d % 64, by omega⟩ * Ideal.ofBits .f32 e :=
  congrArg (· * _) (rope_cols P c s r p hc hs base d off hd x h0 h1 ho h64)

/-- One head twice, turned. -/
theorem rope_twice {n : ℕ} (hi hb hr) (x c s : FVec Ideal (Slab n) .f32) (r : Fin n) (l : Fin 128) (p : ℕ)
    (hc : ∀ l : Fin 128, c (ix2 r l) = cosTab p l) (hs : ∀ l : Fin 128, s (ix2 r l) = sinTab p l) :
    ropeSlab hi hb hr (select (lowCols hi) x (dynamicRotate 1 64#32 none x hr)) c s (ix2 r l)
      = ropeAt (fun j => x (ix2 r ⟨j, by omega⟩)) p ⟨l % 64, by omega⟩ := by
  rw [ropeSlab_tab hi hb hr _ c s r l p hc hs]
  refine congrArg (fun q => ropeAt q p _) (funext fun j => (twice_at hi hr x r _).trans ?_)
  exact congrArg x (congrArg (ix2 r) (Fin.ext (by dsimp only; omega)))

/-- The tokens of all sequences one after the other. -/
def flat {n : ℕ} {e : FTy} (f : Fin 16 → Fin 2048 → Fin n → EReal) : FVec Ideal (⟨2, ![32768, n]⟩ : Shape) e := fun i =>
  f ⟨(i 0 : ℕ) / 2048, by have : (i 0 : ℕ) < 32768 := (i 0).isLt; omega⟩ ⟨(i 0 : ℕ) % 2048, by omega⟩ (i 1)

/-- Row `r` of the `t`-th block of 512 rows. -/
theorem flat_at {n : ℕ} {e : FTy} (f : Fin 16 → Fin 2048 → Fin n → EReal) (t r : ℕ) (ht : t < 64) (hr : r < 512) (d : Fin n) :
    flat (e := e) f (ix2 ⟨512 * t + r, by omega⟩ d) = f ⟨t / 4, by omega⟩ ⟨512 * (t % 4) + r, by omega⟩ d := by
  have hb : (⟨(512 * t + r) / 2048, by omega⟩ : Fin 16) = ⟨t / 4, by omega⟩ := Fin.ext (by dsimp only; omega)
  have hs : (⟨(512 * t + r) % 2048, by omega⟩ : Fin 2048) = ⟨512 * (t % 4) + r, by omega⟩ := Fin.ext (by dsimp only; omega)
  show f ⟨(512 * t + r) / 2048, _⟩ ⟨(512 * t + r) % 2048, _⟩ d = _
  rw [hb, hs]

/-- The queries: column `d` stands in head `d / 64`; the scale holds the softmax's and the one of powers of two. -/
def qTok {n : ℕ} (hn : 1024 ≤ n) (x : FVec Ideal (⟨3, ![16, 2048, 1024]⟩ : Shape) .f32) (g : FVec Ideal (⟨2, ![4, 1024]⟩ : Shape) .f32)
    (w : FVec Ideal (⟨2, ![1024, n]⟩ : Shape) .f32) (b : Fin 16) (s : Fin 2048) (d : Fin 1024) : EReal :=
  ropeAt (fun j => projTok x g w b s ⟨64 * (d / 64) + j, by omega⟩) s ⟨d % 64, by omega⟩ * Ideal.ofBits .f32 0x3E38AA3B#32

end Cert.Mixer

end
-- ==== Proof.DsaLayer.lean ====
/- The results of the sparse mixer's input projection, token by token: the queries, the keys and values
   unfolded from the latent, and the indexer's queries, keys and weights. -/
module

public import proofs.«01_k».proof.Proof.InLayer

@[expose] public section

noncomputable section

namespace Cert.Dsa

open Idealize.ShloMosaic
open Cert.Mixer

/-- Entry `k` of a row of 256 numbers over the root of the row's mean square. -/
def unitRow256 (x : Fin 256 → EReal) (k : Fin 256) : EReal :=
  x k * Ideal.rsqrt (Ideal.div (∑ l, x l * x l) (Ideal.ofBits .f32 0x43800000#32) + Ideal.ofBits .f32 0x358637BD#32)

variable (x : FVec Ideal (⟨3, ![16, 2048, 1024]⟩ : Shape) .f32) (g : FVec Ideal (⟨2, ![4, 1024]⟩ : Shape) .f32)
  (w : FVec Ideal (⟨2, ![1024, 1864]⟩ : Shape) .f32) (nrm : FVec Ideal (⟨1, ![256]⟩ : Shape) .f32)
  (uk uv : FVec Ideal (⟨2, ![256, 64]⟩ : Shape) .f32)

/-- The normalised latent. -/
def latTok (b : Fin 16) (s : Fin 2048) (i : Fin 256) : EReal :=
  unitRow256 (fun i => projTok x g w b s ⟨1024 + i, by omega⟩) i * nrm (ix1 i)

/-- A key's or value's column from the latent. -/
def upTok (b : Fin 16) (s : Fin 2048) (j : Fin 64) : EReal := ∑ i : Fin 256, latTok x g w nrm b s i * uk (ix2 i j)

/-- Keys twice, then the values beside ones on either side. -/
def kvTok (b : Fin 16) (s : Fin 2048) (d : Fin 384) : EReal :=
  if (d : ℕ) < 128 then ropeAt (upTok x g w nrm uk b s) s ⟨d % 64, by omega⟩
  else if h : (d : ℕ) < 192 then upTok x g w nrm uv b s ⟨d - 128, by omega⟩
  else if (d : ℕ) < 320 then Ideal.ofBits .f32 0x3F800000#32
  else upTok x g w nrm uv b s ⟨d - 320, by omega⟩

/-- The indexer's queries. -/
def qiTok (b : Fin 16) (s : Fin 2048) (d : Fin 512) : EReal :=
  ropeAt (fun j => projTok x g w b s ⟨1280 + 64 * (d / 64) + j, by omega⟩) s ⟨d % 64, by omega⟩ * Ideal.ofBits .f32 0x3E000000#32

/-- The indexer's keys, twice. -/
def kiTok (b : Fin 16) (s : Fin 2048) (d : Fin 128) : EReal :=
  ropeAt (fun j => projTok x g w b s ⟨1792 + j, by omega⟩) s ⟨d % 64, by omega⟩

/-- The indexer's weights, one row per head. -/
def wi : FVec Ideal (⟨3, ![16, 8, 2048]⟩ : Shape) .f32 := fun i =>
  projTok x g w (i 0) (i 2) ⟨1856 + (i 1 : ℕ), by have : (i 1 : ℕ) < 8 := (i 1).isLt; omega⟩ * Ideal.ofBits .f32 0x3EB504F3#32

end Cert.Dsa

end
-- ==== Proof.DsaResult.lean ====
/- The sparse mixer's input projection kernel: one grid point's 512 rows, and the result arrays after the run. -/
module

public import proofs.«01_k».proof.Proof.Gen.DsaInIdeal.Value
public import proofs.«01_k».proof.Proof.DsaLayer
public import Idealize.ShloMosaic.Lib.Pipeline.ValueKit

@[expose] public section

set_option maxRecDepth 16384

noncomputable section

namespace Cert.DsaInIdeal.Tok

open Cert.DsaInIdeal Cert.DsaInIdeal.Gen Idealize.ShloMosaic Idealize.ShloMosaic.TcCoe Idealize.SL.Sem
open Idealize.ShloMosaic.Pipeline (Dat)
open Cert.Ffn (unitRow)
open Cert.Mixer Cert.Dsa

variable (m : (ℓ : Loc nD τ sig) → Buf (Elt Ideal) ℓ)

/-- Every window's block at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 4, 0] ∧ win0_6.index t = ![t.val % 4, 0]
    ∧ win0_7.index t = ![t.val, 0] ∧ win0_8.index t = ![t.val, 0] ∧ win0_9.index t = ![t.val, 0] ∧ win0_10.index t = ![t.val, 0]
    ∧ win0_11.index t = ![t.val / 4, 0, t.val % 4] ∧ t.val < 64 :=
  (by decide +kernel : ∀ t : Fin grid0.N, _)

theorem lt64 (t : Fin cfg0.N) : t.val < 64 := (idx t).2.2.2.2.2.2.2.2.2.2.2.2

/-- The token number of row `r` of block `t`. -/
def tok (t : Fin cfg0.N) (r : Fin 512) : Fin 2048 := ⟨512 * (t.val % 4) + r, by omega⟩
/-- The sequence of block `t`. -/
def seq (t : Fin cfg0.N) : Fin 16 := ⟨t.val / 4, by have := lt64 t; omega⟩

abbrev Xa (c : Dev nD) : FVec Ideal S16x2048x1024 .f32 := m ((c : Thread nD τ).loc main_arg0)
abbrev Ga (c : Dev nD) : FVec Ideal S4x1024 .f32 := m ((c : Thread nD τ).loc main_arg1)
abbrev Wa (c : Dev nD) : FVec Ideal S1024x1864 .f32 := m ((c : Thread nD τ).loc main_arg2)
abbrev Na (c : Dev nD) : FVec Ideal S256 .f32 := m ((c : Thread nD τ).loc main_arg3)
abbrev Ka (c : Dev nD) : FVec Ideal S256x64 .f32 := m ((c : Thread nD τ).loc main_arg4)
abbrev Va (c : Dev nD) : FVec Ideal S256x64 .f32 := m ((c : Thread nD τ).loc main_arg5)

theorem x_at (c : Dev nD) (t : Fin cfg0.N) (r : Fin 512) (k : Fin 1024) :
    (show FVec Ideal S512x1024 .f32 from iblk m c 0 t) (ix2 r k) = Xa m c (ix3 (seq t) (tok t r) k) := by
  have := t.isLt
  blk_simp [iblk, idx t]
  dsimp only [V, hostOps0, hostOps0_1, hostOps0_2, List.flatten_cons, List.flatten_nil, List.append_nil, List.cons_append, List.nil_append]
  entry_read
  pointwise
  blk_ext [idx t, seq, tok]

theorem g_at (c : Dev nD) (t : Fin cfg0.N) (k : Fin 1024) :
    (show FVec Ideal S1x1024 .f32 from iblk m c 1 t) (ix2 0 k) = Ga m c (ix2 0 k) := by
  blk_simp [iblk, idx t]
  dsimp only [V, hostOps0, hostOps0_1, hostOps0_2, List.flatten_cons, List.flatten_nil, List.append_nil, List.cons_append, List.nil_append]
  entry_read
  pointwise
  blk_ext [idx t]

/-- The weights as the kernel finds them, padded with columns it never stores. -/
theorem w_at (c : Dev nD) (t : Fin cfg0.N) (k : Fin 1024) (f : Fin 1920) (hf : (f : ℕ) < 1864) :
    (show FVec Ideal S1024x1920 .bf16 from iblk m c 2 t) (ix2 k f) = Wa m c (ix2 k ⟨f, hf⟩) := by
  blk_simp [iblk, idx t]
  dsimp only [V, hostOps0, hostOps0_1, hostOps0_2, List.flatten_cons, List.flatten_nil, List.append_nil, List.cons_append, List.nil_append]
  entry_read
  have hy : (((View.whole main_v30).slice (win0_2.rect t)).emb (ix2 k f) : S1024x1920.Idx) = ix2 k f := by
    blk_ext [idx t]
  show pad S1024x1920 ![0, 0] ![0, 56] ![0, 0] (Wa m c) (sitofp (F := Ideal) FTy.f32 (constantI S_ 32 0#32))
    pads_S1024x1864_S1024x1920_000_0560 h_S_ (((View.whole main_v30).slice (win0_2.rect t)).emb (ix2 k f)) = _
  rw [hy]
  pointwise
  exact dif_pos hf

theorem n_at (c : Dev nD) (t : Fin cfg0.N) (k : Fin 256) :
    (show FVec Ideal S1x256 .f32 from iblk m c 3 t) (ix2 0 k) = Na m c (ix1 k) := by
  blk_simp [iblk, idx t]
  dsimp only [V, hostOps0, hostOps0_1, hostOps0_2, List.flatten_cons, List.flatten_nil, List.append_nil, List.cons_append, List.nil_append]
  entry_read
  pointwise
  blk_ext [idx t]

theorem kv_at (c : Dev nD) (t : Fin cfg0.N) (k : Fin 256) (l : Fin 128) :
    (show FVec Ideal S256x128 .bf16 from iblk m c 4 t) (ix2 k l) = if h : (l : ℕ) < 64 then Ka m c (ix2 k ⟨l, h⟩) else Va m c (ix2 k ⟨l - 64, by omega⟩) := by
  blk_simp [iblk, idx t]
  dsimp only [V, hostOps0, hostOps0_1, hostOps0_2, List.flatten_cons, List.flatten_nil, List.append_nil, List.cons_append, List.nil_append]
  entry_read
  have hy : (((View.whole main_v25).slice (win0_4.rect t)).emb (ix2 k l) : S256x128.Idx) = ix2 k l := by
    blk_ext [idx t]
  generalize (((View.whole main_v25).slice (win0_4.rect t)).emb (ix2 k l) : S256x128.Idx) = y at hy ⊢
  subst hy
  pointwise

theorem cos_at (c : Dev nD) (t : Fin cfg0.N) (r : Fin 512) (l : Fin 128) :
    (show FVec Ideal S512x128 .f32 from iblk m c 5 t) (ix2 r l) = cosTab (tok t r) l := by
  blk_simp [iblk, idx t]
  dsimp only [V, hostOps0, hostOps0_1, hostOps0_2, List.flatten_cons, List.flatten_nil, List.append_nil, List.cons_append, List.nil_append]
  entry_read
  have hy : (((View.whole main_v18).slice (win0_5.rect t)).emb (ix2 r l) : S2048x128.Idx) = ix2 (tok t r) l := by
    have := t.isLt
    blk_ext [idx t, tok]
  generalize (((View.whole main_v18).slice (win0_5.rect t)).emb (ix2 r l) : S2048x128.Idx) = y at hy ⊢
  subst hy
  pointwise
  rfl

theorem sin_at (c : Dev nD) (t : Fin cfg0.N) (r : Fin 512) (l : Fin 128) :
    (show FVec Ideal S512x128 .f32 from iblk m c 6 t) (ix2 r l) = sinTab (tok t r) l := by
  blk_simp [iblk, idx t]
  dsimp only [V, hostOps0, hostOps0_1, hostOps0_2, List.flatten_cons, List.flatten_nil, List.append_nil, List.cons_append, List.nil_append]
  entry_read
  have hy : (((View.whole main_v23).slice (win0_6.rect t)).emb (ix2 r l) : S2048x128.Idx) = ix2 (tok t r) l := by
    have := t.isLt
    blk_ext [idx t, tok]
  generalize (((View.whole main_v23).slice (win0_6.rect t)).emb (ix2 r l) : S2048x128.Idx) = y at hy ⊢
  subst hy
  pointwise
  rfl

/-- A projected row of the block. -/
theorem pay1_at (X : FVec Ideal S512x1024 .f32) (G : FVec Ideal S1x1024 .f32) (W : FVec Ideal S1024x1920 .bf16) (r : Fin 512) (f : Fin 1920) :
    k0_pay1 (F := Ideal) X G W (ix2 r f) = ∑ k : Fin 1024, unitRow (fun d => X (ix2 r d)) k * G (ix2 0 k) * W (ix2 k f) := by
  pointwise [k0_pay1]
  rfl

/-- The latent's row against the unfolding weights. -/
theorem pay27_at (P : FVec Ideal S512x1920 .f32) (N : FVec Ideal S1x256 .f32) (U : FVec Ideal S256x128 .bf16) (r : Fin 512) (l : Fin 128) :
    k0_pay27 (F := Ideal) P N U (ix2 r l)
      = ∑ i : Fin 256, unitRow256 (fun i => P (ix2 r ⟨1024 + i, by omega⟩)) i * N (ix2 0 i) * U (ix2 i l) := by
  pointwise [k0_pay27]
  rfl

/-- The block's projected rows over the arguments. -/
theorem proj_at (c : Dev nD) (t : Fin cfg0.N) (r : Fin 512) (f : Fin 1920) (hf : (f : ℕ) < 1864) :
    k0_pay54 (F := Ideal) (iblk m c 0 t) (iblk m c 1 t) (iblk m c 2 t) (iblk m c 3 t) (iblk m c 4 t) (iblk m c 5 t) (iblk m c 6 t) (ix2 r f)
      = projTok (Xa m c) (Ga m c) (Wa m c) (seq t) (tok t r) ⟨f, hf⟩ := by
  unfold k0_pay54
  frame_out
  refine (pay1_at _ _ _ r f).trans ?_
  unfold projTok
  refine Finset.sum_congr rfl fun k _ => congrArg₂ (· * ·) (congrArg₂ (· * ·) (congrArg (fun z => unitRow z k) (funext fun d => ?_)) (g_at m c t k)) (w_at m c t k f hf)
  exact x_at m c t r d

/-- The latent's columns of the block over the arguments. -/
theorem lat_of (P : FVec Ideal S512x1920 .f32) (N : FVec Ideal S1x256 .f32) (U : FVec Ideal S256x128 .bf16) (r : Fin 512) (l : Fin 128)
    (X : FVec Ideal S16x2048x1024 .f32) (G : FVec Ideal S4x1024 .f32) (W : FVec Ideal S1024x1864 .f32) (nrm : FVec Ideal S256 .f32)
    (u : FVec Ideal S256x64 .f32) (b : Fin 16) (s : Fin 2048) (j : Fin 64)
    (hP : ∀ (f : Fin 1920) (hf : (f : ℕ) < 1864), P (ix2 r f) = projTok X G W b s ⟨f, hf⟩)
    (hN : ∀ i : Fin 256, N (ix2 0 i) = nrm (ix1 i)) (hU : ∀ i : Fin 256, U (ix2 i l) = u (ix2 i j)) :
    k0_pay27 (F := Ideal) P N U (ix2 r l) = upTok X G W nrm u b s j := by
  refine (pay27_at _ _ _ r l).trans ?_
  unfold upTok latTok
  refine Finset.sum_congr rfl fun i _ => congrArg₂ (· * ·) (congrArg₂ (· * ·) (congrArg (fun z => unitRow256 z i) (funext fun i => ?_)) (hN i)) (hU i)
  exact hP _ (by dsimp only; omega)

theorem ld_norm (Y : Vec Ideal S1x256 .f32) : View.ld Y r0_12 = Y := View.ld_unit_lit' _ Y (by decide)

theorem ld_unfold (Y : Vec Ideal S256x128 .bf16) : View.ld Y r0_13 = Y := View.ld_unit_lit' _ Y (by decide)

/-- The unfolded columns of the block. -/
abbrev lat (c : Dev nD) (t : Fin cfg0.N) : FVec Ideal S512x128 .f32 :=
  k0_pay27 (F := Ideal) (k0_pay54 (iblk m c 0 t) (iblk m c 1 t) (iblk m c 2 t) (iblk m c 3 t) (iblk m c 4 t) (iblk m c 5 t) (iblk m c 6 t)) (View.ld (iblk m c 3 t) r0_12) (View.ld (iblk m c 4 t) r0_13)

theorem lat_key (c : Dev nD) (t : Fin cfg0.N) (r : Fin 512) (l : Fin 128) (hl : (l : ℕ) < 64) :
    lat m c t (ix2 r l) = upTok (Xa m c) (Ga m c) (Wa m c) (Na m c) (Ka m c) (seq t) (tok t r) ⟨l, hl⟩ := by
  unfold lat
  rw [ld_norm, ld_unfold]
  exact lat_of _ _ _ r l _ _ _ _ _ _ _ _ (fun f hf => proj_at m c t r f hf) (fun i => n_at m c t i)
    (fun i => (kv_at m c t i l).trans (dif_pos hl))

theorem lat_value (c : Dev nD) (t : Fin cfg0.N) (r : Fin 512) (l : Fin 128) (hl : ¬ (l : ℕ) < 64) :
    lat m c t (ix2 r l) = upTok (Xa m c) (Ga m c) (Wa m c) (Na m c) (Va m c) (seq t) (tok t r) ⟨l - 64, by omega⟩ := by
  unfold lat
  rw [ld_norm, ld_unfold]
  exact lat_of _ _ _ r l _ _ _ _ _ _ _ _ (fun f hf => proj_at m c t r f hf) (fun i => n_at m c t i)
    (fun i => (kv_at m c t i l).trans (dif_neg hl))

theorem cosBlk_at (c : Dev nD) (t : Fin cfg0.N) (r : Fin 512) (l : Fin 128) :
    k0_pay55 (F := Ideal) (iblk m c 0 t) (iblk m c 1 t) (iblk m c 2 t) (iblk m c 3 t) (iblk m c 4 t) (iblk m c 5 t) (iblk m c 6 t) (ix2 r l) = cosTab (tok t r) l := by
  unfold k0_pay55 k0_pay2
  frame_out
  pointwise
  exact cos_at m c t r l

theorem sinBlk_at (c : Dev nD) (t : Fin cfg0.N) (r : Fin 512) (l : Fin 128) :
    k0_pay56 (F := Ideal) (iblk m c 0 t) (iblk m c 1 t) (iblk m c 2 t) (iblk m c 3 t) (iblk m c 4 t) (iblk m c 5 t) (iblk m c 6 t) (ix2 r l) = sinTab (tok t r) l := by
  unfold k0_pay56 k0_pay3
  frame_out
  pointwise
  exact sin_at m c t r l

/-- The queries' block: eight stores of 128 columns. -/
theorem q_block (x0 x1 x2 x3 x4 x5 x6) (r : Fin 512) (d : Fin 1024) (p : ℕ)
    (hc : ∀ l : Fin 128, k0_pay55 (F := Ideal) x0 x1 x2 x3 x4 x5 x6 (ix2 r l) = cosTab p l)
    (hs : ∀ l : Fin 128, k0_pay56 (F := Ideal) x0 x1 x2 x3 x4 x5 x6 (ix2 r l) = sinTab p l) :
    out0_7 x0 x1 x2 x3 x4 x5 x6 (ix2 r d)
      = ropeAt (fun j => k0_pay54 (F := Ideal) x0 x1 x2 x3 x4 x5 x6 (ix2 r ⟨0 + 64 * (d / 64) + j, by omega⟩)) p ⟨d % 64, by omega⟩
          * Ideal.ofBits .f32 0x3E38AA3B#32 := by
  canon_tiles x h
  all_goals
    try replace h1 : (d : ℕ) = 0 + (x 1 : ℕ) := h1.trans (Nat.zero_add _).symm
    refine Eq.trans ?_ (rope_cols_scaled (hi := iota_S512x128_d1_w32) (hb := broadcasts_S512x128_S512x128) (hr := rotates_S512x128_d1)
      (hbits := bitsLt_bf16_f32) (h := by decide) (k0_pay54 (F := Ideal) x0 x1 x2 x3 x4 x5 x6) (k0_pay55 (F := Ideal) x0 x1 x2 x3 x4 x5 x6)
      (k0_pay56 (F := Ideal) x0 x1 x2 x3 x4 x5 x6) r p hc hs 0 d _ (by omega) x h0 h1 (Nat.zero_add _).symm (by decide))
    rfl

/-- The indexer's queries' block: four stores. -/
theorem qi_block (x0 x1 x2 x3 x4 x5 x6) (r : Fin 512) (d : Fin 512) (p : ℕ)
    (hc : ∀ l : Fin 128, k0_pay55 (F := Ideal) x0 x1 x2 x3 x4 x5 x6 (ix2 r l) = cosTab p l)
    (hs : ∀ l : Fin 128, k0_pay56 (F := Ideal) x0 x1 x2 x3 x4 x5 x6 (ix2 r l) = sinTab p l) :
    out0_9 x0 x1 x2 x3 x4 x5 x6 (ix2 r d)
      = ropeAt (fun j => k0_pay54 (F := Ideal) x0 x1 x2 x3 x4 x5 x6 (ix2 r ⟨1280 + 64 * (d / 64) + j, by omega⟩)) p ⟨d % 64, by omega⟩
          * Ideal.ofBits .f32 0x3E000000#32 := by
  canon_tiles x h
  all_goals
    try replace h1 : (d : ℕ) = 0 + (x 1 : ℕ) := h1.trans (Nat.zero_add _).symm
    refine Eq.trans ?_ (rope_cols_scaled (hi := iota_S512x128_d1_w32) (hb := broadcasts_S512x128_S512x128) (hr := rotates_S512x128_d1)
      (hbits := bitsLt_bf16_f32) (h := by decide) (k0_pay54 (F := Ideal) x0 x1 x2 x3 x4 x5 x6) (k0_pay55 (F := Ideal) x0 x1 x2 x3 x4 x5 x6)
      (k0_pay56 (F := Ideal) x0 x1 x2 x3 x4 x5 x6) r p hc hs 1280 d _ (by omega) x h0 h1 rfl (by decide))
    rfl

/-- The indexer's keys' block. -/
theorem ki_block (x0 x1 x2 x3 x4 x5 x6) (r : Fin 512) (d : Fin 128) (p : ℕ)
    (hc : ∀ l : Fin 128, k0_pay55 (F := Ideal) x0 x1 x2 x3 x4 x5 x6 (ix2 r l) = cosTab p l)
    (hs : ∀ l : Fin 128, k0_pay56 (F := Ideal) x0 x1 x2 x3 x4 x5 x6 (ix2 r l) = sinTab p l) :
    out0_10 x0 x1 x2 x3 x4 x5 x6 (ix2 r d)
      = ropeAt (fun j => k0_pay54 (F := Ideal) x0 x1 x2 x3 x4 x5 x6 (ix2 r ⟨1792 + j, by omega⟩)) p ⟨d % 64, by omega⟩ := by
  unfold out0_10
  frame_out
  refine (rope_twice iota_S512x128_d1_w32 broadcasts_S512x128_S512x128 rotates_S512x128_d1 (k0_pay47 (k0_pay54 (F := Ideal) x0 x1 x2 x3 x4 x5 x6))
    (k0_pay55 (F := Ideal) x0 x1 x2 x3 x4 x5 x6) (k0_pay56 (F := Ideal) x0 x1 x2 x3 x4 x5 x6) r d p hc hs).trans ?_
  refine congrArg (fun q => ropeAt q p _) (funext fun j => ?_)
  pointwise [k0_pay47]

/-- The indexer's weights' block, transposed. -/
theorem wi_block (x0 x1 x2 x3 x4 x5 x6) (h : Fin 8) (r : Fin 512) :
    out0_11 x0 x1 x2 x3 x4 x5 x6 (ix3 0 h r) = k0_pay54 (F := Ideal) x0 x1 x2 x3 x4 x5 x6 (ix2 r ⟨1856 + h, by omega⟩) * Ideal.ofBits .f32 0x3EB504F3#32 := by
  unfold out0_11
  frame_out
  have e : k0_pay51 (k0_pay54 (F := Ideal) x0 x1 x2 x3 x4 x5 x6) (ix2 r ⟨h, by omega⟩) = k0_pay54 (F := Ideal) x0 x1 x2 x3 x4 x5 x6 (ix2 r ⟨1856 + h, by omega⟩) := by
    refine (twice_high_at iota_S512x128_d1_w32 rotates_S512x128_d1 (k0_pay47 (k0_pay54 (F := Ideal) x0 x1 x2 x3 x4 x5 x6)) r ⟨h, by omega⟩).trans ?_
    pointwise [k0_pay47]
    exact congrArg _ (congrArg (ix2 r) (Fin.ext (by dsimp only; omega)))
  rw [← e]
  generalize k0_pay51 (k0_pay54 (F := Ideal) x0 x1 x2 x3 x4 x5 x6) = z
  pointwise [k0_pay53]

/-- The keys' and values' block: the turned keys twice, then the values beside ones. -/
theorem kv_block (x0 x1 x2 x3 x4 x5 x6) (r : Fin 512) (d : Fin 384) (p : ℕ)
    (U : FVec Ideal S512x128 .f32) (hU : U = k0_pay27 (F := Ideal) (k0_pay54 x0 x1 x2 x3 x4 x5 x6) (View.ld x3 r0_12) (View.ld x4 r0_13))
    (hc : ∀ l : Fin 128, k0_pay55 (F := Ideal) x0 x1 x2 x3 x4 x5 x6 (ix2 r l) = cosTab p l)
    (hs : ∀ l : Fin 128, k0_pay56 (F := Ideal) x0 x1 x2 x3 x4 x5 x6 (ix2 r l) = sinTab p l) :
    out0_8 x0 x1 x2 x3 x4 x5 x6 (ix2 r d)
      = if (d : ℕ) < 128 then ropeAt (fun j => U (ix2 r ⟨j, by omega⟩)) p ⟨d % 64, by omega⟩
        else if h : (d : ℕ) < 192 then U (ix2 r ⟨64 + (d - 128), by omega⟩)
        else if (d : ℕ) < 320 then Ideal.ofBits .f32 0x3F800000#32
        else U (ix2 r ⟨64 + (d - 320), by omega⟩) := by
  subst hU
  have hm : ∀ (x : S512x128.Idx) (b : ℕ), ((ix2 r d : S512x384.Idx) 0 : ℕ) = x 0 → ((ix2 r d : S512x384.Idx) 1 : ℕ) = b + x 1 → ∃ l : Fin 128, (d : ℕ) = b + l ∧ x = ix2 r l :=
    fun x b h0 h1 => ⟨x 1, h1, funext fun a => match a with
      | ⟨0, _⟩ => Fin.ext h0.symm
      | ⟨1, _⟩ => rfl⟩
  canon_tiles x h
  · obtain ⟨l, hl, rfl⟩ := hm x 256 h0 h1
    refine (pick_at iota_S512x128_d1_w32 _ _ r l).trans ?_
    rw [if_neg (show ¬ (d : ℕ) < 128 by omega), dif_neg (show ¬ (d : ℕ) < 192 by omega)]
    by_cases h64 : (l : ℕ) < 64
    · rw [if_pos h64, if_pos (show (d : ℕ) < 320 by omega)]
      rfl
    · rw [if_neg h64, if_neg (show ¬ (d : ℕ) < 320 by omega)]
      refine (twice_high_at iota_S512x128_d1_w32 rotates_S512x128_d1 _ r l).trans ?_
      exact congrArg _ (congrArg (ix2 r) (Fin.ext (by dsimp only; omega)))
  · obtain ⟨l, hl, rfl⟩ := hm x 128 h0 h1
    refine (pick_at iota_S512x128_d1_w32 _ _ r l).trans ?_
    rw [if_neg (show ¬ (d : ℕ) < 128 by omega)]
    by_cases h64 : (l : ℕ) < 64
    · rw [if_pos h64, dif_pos (show (d : ℕ) < 192 by omega)]
      refine (twice_high_at iota_S512x128_d1_w32 rotates_S512x128_d1 _ r l).trans ?_
      exact congrArg _ (congrArg (ix2 r) (Fin.ext (by dsimp only; omega)))
    · rw [if_neg h64, dif_neg (show ¬ (d : ℕ) < 192 by omega), if_pos (show (d : ℕ) < 320 by omega)]
      rfl
  · obtain ⟨l, hl, rfl⟩ := hm x 0 h0 (h1.trans (Nat.zero_add _).symm)
    rw [if_pos (show (d : ℕ) < 128 by omega)]
    refine (rope_twice iota_S512x128_d1_w32 broadcasts_S512x128_S512x128 rotates_S512x128_d1 _
      (k0_pay55 (F := Ideal) x0 x1 x2 x3 x4 x5 x6) (k0_pay56 (F := Ideal) x0 x1 x2 x3 x4 x5 x6) r l p hc hs).trans ?_
    exact congrArg (ropeAt _ p) (Fin.ext (by dsimp only; omega))

/-- The queries of a point over the arguments. -/
theorem point7 (c : Dev nD) (t : Fin cfg0.N) (r : Fin 512) (d : Fin 1024) :
    out0_7 (iblk m c 0 t) (iblk m c 1 t) (iblk m c 2 t) (iblk m c 3 t) (iblk m c 4 t) (iblk m c 5 t) (iblk m c 6 t) (ix2 r d) = qTok (n := 1864) (by decide) (Xa m c) (Ga m c) (Wa m c) (seq t) (tok t r) d := by
  refine (q_block _ _ _ _ _ _ _ r d _ (cosBlk_at m c t r) (sinBlk_at m c t r)).trans ?_
  unfold qTok
  refine congrArg (· * _) (congrArg (fun z => ropeAt z _ _) (funext fun j => ?_))
  refine (proj_at m c t r _ (by dsimp only; omega)).trans ?_
  exact congrArg (projTok _ _ _ _ _) (Fin.ext (by dsimp only; omega))

/-- The array after the run. -/
theorem final7 (c : Dev nD) : (dats m 0 c).arrAt 7 cfg0.N = flat (e := .bf16) (qTok (n := 1864) (by decide) (Xa m c) (Ga m c) (Wa m c)) := by
  refine (dats m 0 c).arrAt_eq_of_covers 7 _ (by decide +kernel) fun t _ y => ?_
  blk_simp
  rw [after0_7]
  idx_vars y
  refine (point7 m c t _ _).trans ?_
  have ht := lt64 t
  have hy : (((cfg0.win 7).blk t).view.emb (ix2 y0 y1) : S32768x1024.Idx) = ix2 ⟨512 * t.val + y0, by omega⟩ y1 := by
    blk_ext [idx t]
  exact ((congrArg (flat (e := .bf16) (qTok (n := 1864) (by decide) (Xa m c) (Ga m c) (Wa m c))) hy).trans (flat_at _ t y0 ht y0.isLt y1)).symm

/-- The keys and values of a point over the arguments. -/
theorem point8 (c : Dev nD) (t : Fin cfg0.N) (r : Fin 512) (d : Fin 384) :
    out0_8 (iblk m c 0 t) (iblk m c 1 t) (iblk m c 2 t) (iblk m c 3 t) (iblk m c 4 t) (iblk m c 5 t) (iblk m c 6 t) (ix2 r d) = kvTok (Xa m c) (Ga m c) (Wa m c) (Na m c) (Ka m c) (Va m c) (seq t) (tok t r) d := by
  refine (kv_block _ _ _ _ _ _ _ r d _ (lat m c t) rfl (cosBlk_at m c t r) (sinBlk_at m c t r)).trans ?_
  unfold kvTok
  split
  · exact congrArg (fun z => ropeAt z _ _) (funext fun j => lat_key m c t r _ j.isLt)
  · split
    · refine (lat_value m c t r _ (by dsimp only; omega)).trans ?_
      exact congrArg (upTok _ _ _ _ _ _ _) (Fin.ext (by dsimp only; omega))
    · split
      · rfl
      · refine (lat_value m c t r _ (by dsimp only; omega)).trans ?_
        exact congrArg (upTok _ _ _ _ _ _ _) (Fin.ext (by dsimp only; omega))

/-- The array after the run. -/
theorem final8 (c : Dev nD) : (dats m 0 c).arrAt 8 cfg0.N = flat (e := .bf16) (kvTok (Xa m c) (Ga m c) (Wa m c) (Na m c) (Ka m c) (Va m c)) := by
  refine (dats m 0 c).arrAt_eq_of_covers 8 _ (by decide +kernel) fun t _ y => ?_
  blk_simp
  rw [after0_8]
  idx_vars y
  refine (point8 m c t _ _).trans ?_
  have ht := lt64 t
  have hy : (((cfg0.win 8).blk t).view.emb (ix2 y0 y1) : S32768x384.Idx) = ix2 ⟨512 * t.val + y0, by omega⟩ y1 := by
    blk_ext [idx t]
  exact ((congrArg (flat (e := .bf16) (kvTok (Xa m c) (Ga m c) (Wa m c) (Na m c) (Ka m c) (Va m c))) hy).trans (flat_at _ t y0 ht y0.isLt y1)).symm

/-- The indexer's queries of a point over the arguments. -/
theorem point9 (c : Dev nD) (t : Fin cfg0.N) (r : Fin 512) (d : Fin 512) :
    out0_9 (iblk m c 0 t) (iblk m c 1 t) (iblk m c 2 t) (iblk m c 3 t) (iblk m c 4 t) (iblk m c 5 t) (iblk m c 6 t) (ix2 r d) = qiTok (Xa m c) (Ga m c) (Wa m c) (seq t) (tok t r) d := by
  refine (qi_block _ _ _ _ _ _ _ r d _ (cosBlk_at m c t r) (sinBlk_at m c t r)).trans ?_
  unfold qiTok
  refine congrArg (· * _) (congrArg (fun z => ropeAt z _ _) (funext fun j => ?_))
  exact proj_at m c t r _ (by dsimp only; omega)

/-- The array after the run. -/
theorem final9 (c : Dev nD) : (dats m 0 c).arrAt 9 cfg0.N = flat (e := .bf16) (qiTok (Xa m c) (Ga m c) (Wa m c)) := by
  refine (dats m 0 c).arrAt_eq_of_covers 9 _ (by decide +kernel) fun t _ y => ?_
  blk_simp
  rw [after0_9]
  idx_vars y
  refine (point9 m c t _ _).trans ?_
  have ht := lt64 t
  have hy : (((cfg0.win 9).blk t).view.emb (ix2 y0 y1) : S32768x512.Idx) = ix2 ⟨512 * t.val + y0, by omega⟩ y1 := by
    blk_ext [idx t]
  exact ((congrArg (flat (e := .bf16) (qiTok (Xa m c) (Ga m c) (Wa m c))) hy).trans (flat_at _ t y0 ht y0.isLt y1)).symm

/-- The indexer's keys of a point over the arguments. -/
theorem point10 (c : Dev nD) (t : Fin cfg0.N) (r : Fin 512) (d : Fin 128) :
    out0_10 (iblk m c 0 t) (iblk m c 1 t) (iblk m c 2 t) (iblk m c 3 t) (iblk m c 4 t) (iblk m c 5 t) (iblk m c 6 t) (ix2 r d) = kiTok (Xa m c) (Ga m c) (Wa m c) (seq t) (tok t r) d := by
  refine (ki_block _ _ _ _ _ _ _ r d _ (cosBlk_at m c t r) (sinBlk_at m c t r)).trans ?_
  unfold kiTok
  refine congrArg (fun z => ropeAt z _ _) (funext fun j => ?_)
  exact proj_at m c t r _ (by dsimp only; omega)

/-- The array after the run. -/
theorem final10 (c : Dev nD) : (dats m 0 c).arrAt 10 cfg0.N = flat (e := .bf16) (kiTok (Xa m c) (Ga m c) (Wa m c)) := by
  refine (dats m 0 c).arrAt_eq_of_covers 10 _ (by decide +kernel) fun t _ y => ?_
  blk_simp
  rw [after0_10]
  idx_vars y
  refine (point10 m c t _ _).trans ?_
  have ht := lt64 t
  have hy : (((cfg0.win 10).blk t).view.emb (ix2 y0 y1) : S32768x128.Idx) = ix2 ⟨512 * t.val + y0, by omega⟩ y1 := by
    blk_ext [idx t]
  exact ((congrArg (flat (e := .bf16) (kiTok (Xa m c) (Ga m c) (Wa m c))) hy).trans (flat_at _ t y0 ht y0.isLt y1)).symm

/-- The indexer's weights of a point over the arguments. -/
theorem point11 (c : Dev nD) (t : Fin cfg0.N) (h : Fin 8) (r : Fin 512) :
    out0_11 (iblk m c 0 t) (iblk m c 1 t) (iblk m c 2 t) (iblk m c 3 t) (iblk m c 4 t) (iblk m c 5 t) (iblk m c 6 t) (ix3 0 h r) = wi (Xa m c) (Ga m c) (Wa m c) (ix3 (seq t) h (tok t r)) := by
  refine (wi_block _ _ _ _ _ _ _ h r).trans ?_
  exact congrArg (· * _) (proj_at m c t r _ (by dsimp only; omega))

/-- The array after the run. -/
theorem final11 (c : Dev nD) : (dats m 0 c).arrAt 11 cfg0.N = wi (Xa m c) (Ga m c) (Wa m c) := by
  refine (dats m 0 c).arrAt_eq_of_covers 11 _ (by decide +kernel) fun t _ y => ?_
  blk_simp
  rw [after0_11]
  idx_vars y
  have ht := t.isLt
  obtain rfl : y0 = 0 := Subsingleton.elim _ _
  refine (point11 m c t _ _).trans ?_
  have hy : (((cfg0.win 11).blk t).view.emb (ix3 0 y1 y2) : S16x8x2048.Idx) = ix3 (seq t) y1 (tok t y2) := by
    blk_ext [idx t, seq, tok]
  exact (congrArg (wi (Xa m c) (Ga m c) (Wa m c)) hy).symm

end Cert.DsaInIdeal.Tok

end
-- ==== Proof.DsaReference.lean ====
/- The sparse mixer's input projection in the reference, token by token. -/
module

public import proofs.«01_k».proof.Proof.Gen.DsaInRefIdeal.Read
public import proofs.«01_k».proof.Proof.DsaLayer

@[expose] public section

set_option maxRecDepth 16384

noncomputable section

namespace Cert.DsaInRefIdeal.Tok

open Cert.DsaInRefIdeal Cert.DsaInRefIdeal.Gen Cert.DsaInRefIdeal.Read Idealize.ShloMosaic
open Cert.Mixer Cert.Dsa
open Cert.Ffn (unitRow)

variable (x : FVec Ideal S16x2048x1024 .f32) (g : FVec Ideal S4x1024 .f32) (w : FVec Ideal S1024x1864 .f32)
  (nrm : FVec Ideal S256 .f32) (uk uv : FVec Ideal S256x64 .f32)

/-- The projection of a normalised token. -/
theorem proj_at (b : Fin 16) (s : Fin 2048) (f : Fin 1864) : val_main_v16 (F := Ideal) x g w (ix3 b s f) = projTok x g w b s f := by
  pointwise [val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16]
  unfold projTok unitRow
  rfl

/-- The queries turned. -/
theorem q_at (b : Fin 16) (s : Fin 2048) (h : Fin 16) (j : Fin 64) : val_main_v55 (F := Ideal) x g w (ix4 b s h j)
    = ropeAt (fun j => projTok x g w b s ⟨64 * h + j, by omega⟩) s j := by
  have e : (fun j : Fin 64 => projTok x g w b s ⟨64 * h + j, by omega⟩) = fun j => val_main_v22 (F := Ideal) x g w (ix4 b s h j) := by
    refine funext fun j => ?_
    rw [← proj_at]
    pointwise [val_main_v17, val_main_v22]
    exact congrArg (val_main_v16 (F := Ideal) x g w) (congrArg (ix3 b s) (Fin.ext (by dsimp only; omega)))
  rw [e]
  pointwise [val_main_v0, val_main_v23, val_main_v24, val_main_cst_2, val_main_v25, val_main_v26, val_main_cst_3, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55]
  exact ropeAt_halves (fun j => val_main_v22 (F := Ideal) x g w (ix4 b s h j)) s j

/-- The normalised latent. -/
theorem lat_at (b : Fin 16) (s : Fin 2048) (i : Fin 256) : val_main_v70 (F := Ideal) x g w nrm (ix3 b s i) = latTok x g w nrm b s i := by
  have e : (fun i : Fin 256 => projTok x g w b s ⟨1024 + i, by omega⟩) = fun i => val_main_v18 (F := Ideal) x g w (ix3 b s i) := by
    refine funext fun j => ?_
    rw [← proj_at]
    pointwise [val_main_v18]
  unfold latTok
  rw [e]
  pointwise [val_main_v58, val_main_cst_5, val_main_v59, val_main_v60, val_main_cst_6, val_main_v61, val_main_v62, val_main_cst_7, val_main_v63, val_main_v64, val_main_v65, val_main_v66, val_main_v67, val_main_v68, val_main_v69, val_main_v70]
  rfl

theorem uk_at (b : Fin 16) (s : Fin 2048) (j : Fin 64) : val_main_v71 (F := Ideal) x g w nrm uk (ix3 b s j) = upTok x g w nrm uk b s j := by
  unfold upTok
  pointwise [val_main_v71]
  exact Finset.sum_congr rfl fun i _ => congrArg (· * _) (lat_at x g w nrm b s i)

theorem uv_at (b : Fin 16) (s : Fin 2048) (j : Fin 64) : val_main_v103 (F := Ideal) x g w nrm uv (ix3 b s j) = upTok x g w nrm uv b s j := by
  unfold upTok
  pointwise [val_main_v103]
  exact Finset.sum_congr rfl fun i _ => congrArg (· * _) (lat_at x g w nrm b s i)

/-- The keys turned. -/
theorem k_at (b : Fin 16) (s : Fin 2048) (j : Fin 64) : val_main_v102 (F := Ideal) x g w nrm uk (ix3 b s j)
    = ropeAt (upTok x g w nrm uk b s) s j := by
  have e : upTok x g w nrm uk b s = fun j => val_main_v71 (F := Ideal) x g w nrm uk (ix3 b s j) :=
    funext fun j => (uk_at x g w nrm uk b s j).symm
  rw [e]
  pointwise [val_main_v0, val_main_v72, val_main_v73, val_main_cst_8, val_main_v74, val_main_v75, val_main_cst_9, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102]
  exact ropeAt_halves (fun j => val_main_v71 (F := Ideal) x g w nrm uk (ix3 b s j)) s j

/-- The indexer's queries turned. -/
theorem qi_at (b : Fin 16) (s : Fin 2048) (h : Fin 8) (j : Fin 64) : val_main_v137 (F := Ideal) x g w (ix4 b s h j)
    = ropeAt (fun j => projTok x g w b s ⟨1280 + 64 * h + j, by omega⟩) s j := by
  have e : (fun j : Fin 64 => projTok x g w b s ⟨1280 + 64 * h + j, by omega⟩) = fun j => val_main_v104 (F := Ideal) x g w (ix4 b s h j) := by
    refine funext fun j => ?_
    rw [← proj_at]
    pointwise [val_main_v19, val_main_v104]
    exact congrArg (val_main_v16 (F := Ideal) x g w) (congrArg (ix3 b s) (Fin.ext (by dsimp only; omega)))
  rw [e]
  pointwise [val_main_v0, val_main_v105, val_main_v106, val_main_cst_10, val_main_v107, val_main_v108, val_main_cst_11, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137]
  exact ropeAt_halves (fun j => val_main_v104 (F := Ideal) x g w (ix4 b s h j)) s j

/-- The indexer's keys turned. -/
theorem ki_at (b : Fin 16) (s : Fin 2048) (j : Fin 64) : val_main_v170 (F := Ideal) x g w (ix3 b s j)
    = ropeAt (fun j => projTok x g w b s ⟨1792 + j, by omega⟩) s j := by
  have e : (fun j : Fin 64 => projTok x g w b s ⟨1792 + j, by omega⟩) = fun j => val_main_v20 (F := Ideal) x g w (ix3 b s j) := by
    refine funext fun j => ?_
    rw [← proj_at]
    pointwise [val_main_v20]
  rw [e]
  pointwise [val_main_v0, val_main_v140, val_main_v141, val_main_cst_13, val_main_v142, val_main_v143, val_main_cst_14, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170]
  exact ropeAt_halves (fun j => val_main_v20 (F := Ideal) x g w (ix3 b s j)) s j

/-- The queries' array. -/
theorem v177_eq : val_main_v177 (F := Ideal) x g w = flat (e := .bf16) (qTok (n := 1864) (by decide) x g w) := by
  refine funext fun i => ?_
  idx_vars i
  unfold flat qTok
  pointwise [val_main_cst_4, val_main_v56, val_main_v57, val_main_v176, val_main_v177]
  rw [q_at]

/-- The keys' and values' array. -/
theorem v179_eq : val_main_v179 (F := Ideal) x g w nrm uk uv = flat (e := .bf16) (kvTok x g w nrm uk uv) := by
  refine funext fun i => ?_
  idx_vars i
  unfold flat kvTok
  pointwise [val_main_cst_16, val_main_v173, val_main_v174, val_main_v178, val_main_v179]
  repeat' split
  all_goals first
    | omega
    | rfl
    | exact (k_at x g w nrm uk _ _ _).trans (congrArg (ropeAt _ _) (Fin.ext (by dsimp only; omega)))
    | exact (uv_at x g w nrm uv _ _ _).trans (congrArg (upTok _ _ _ _ _ _ _) (Fin.ext (by dsimp only; omega)))

/-- The indexer's queries' array. -/
theorem v181_eq : val_main_v181 (F := Ideal) x g w = flat (e := .bf16) (qiTok x g w) := by
  refine funext fun i => ?_
  idx_vars i
  unfold flat qiTok
  pointwise [val_main_cst_12, val_main_v138, val_main_v139, val_main_v180, val_main_v181]
  rw [qi_at]

/-- The indexer's keys' array. -/
theorem v183_eq : val_main_v183 (F := Ideal) x g w = flat (e := .bf16) (kiTok x g w) := by
  refine funext fun i => ?_
  idx_vars i
  unfold flat kiTok
  pointwise [val_main_v175, val_main_v182, val_main_v183]
  split
  all_goals
    refine (ki_at x g w _ _ _).trans (congrArg (ropeAt _ _) (Fin.ext ?_))
    dsimp only
    omega

/-- The indexer's weights' array. -/
theorem v184_eq : val_main_v184 (F := Ideal) x g w = wi x g w := by
  refine funext fun i => ?_
  idx_vars i
  unfold wi
  pointwise [val_main_v21, val_main_cst_15, val_main_v171, val_main_v172, val_main_v184]
  rw [proj_at]

end Cert.DsaInRefIdeal.Tok

end
-- ==== Proof.NsaLayer.lean ====
/- The results of the native sparse mixer's input projection, token by token: the queries, the keys and
   values of its three branches, and the gates. -/
module

public import proofs.«01_k».proof.Proof.InLayer

@[expose] public section

set_option maxRecDepth 16384

noncomputable section

namespace Cert.Nsa

open Idealize.ShloMosaic
open Cert.Mixer

/-- A row read at any column, zero beyond its last. -/
def col {n : ℕ} (f : Fin n → EReal) (k : ℕ) : EReal := if h : k < n then f ⟨k, h⟩ else 0

theorem col_lt {n : ℕ} (f : Fin n → EReal) (k : Fin n) : col f k = f k := dif_pos k.isLt

theorem col_ge {n : ℕ} (f : Fin n → EReal) (k : ℕ) (h : n ≤ k) : col f k = 0 := dif_neg (by omega)

/-- The entry the paddings write. -/
theorem zero_cell : FloatOps.sitofp (F := Ideal) FTy.f32 0#32 = (0 : EReal) := by
  show (((0#32 : BitVec 32).toInt : ℝ) : EReal) = 0
  simp

/-- Column `d` of a token's keys and values, from its projected columns `q`: 768 for either group of heads,
    and there 384 for the selected and 384 for the windowed branch: a key turned, twice, then the value
    beside ones on either side. -/
def kvCol (q : ℕ → EReal) (s d : ℕ) : EReal :=
  if d % 384 < 128 then ropeAt (fun i => q (1280 + 256 * (d % 768 / 384) + 64 * (d / 768) + i)) s ⟨d % 384 % 64, by omega⟩
  else if d % 384 < 192 then q (1408 + 256 * (d % 768 / 384) + 64 * (d / 768) + (d % 384 - 128))
  else if d % 384 < 320 then Ideal.ofBits .f32 0x3F800000#32
  else q (1408 + 256 * (d % 768 / 384) + 64 * (d / 768) + (d % 384 - 320))

theorem kvCol_key (q : ℕ → EReal) (s j g l : ℕ) (hj : j < 2) (hl : l < 128) :
    kvCol q s (768 * g + 384 * j + l) = ropeAt (fun i => q (1280 + 256 * j + 64 * g + i)) s ⟨l % 64, by omega⟩ := by
  have h0 : (768 * g + 384 * j + l) % 384 = l := by omega
  have h1 : (768 * g + 384 * j + l) % 768 / 384 = j := by omega
  have h2 : (768 * g + 384 * j + l) / 768 = g := by omega
  simp only [kvCol, h0, h1, h2, if_pos hl]

theorem kvCol_low (q : ℕ → EReal) (s j g l : ℕ) (hj : j < 2) (hl : l < 128) :
    kvCol q s (768 * g + 384 * j + 128 + l) = if l < 64 then q (1408 + 256 * j + 64 * g + l) else Ideal.ofBits .f32 0x3F800000#32 := by
  have h0 : (768 * g + 384 * j + 128 + l) % 384 = 128 + l := by omega
  have h1 : (768 * g + 384 * j + 128 + l) % 768 / 384 = j := by omega
  have h2 : (768 * g + 384 * j + 128 + l) / 768 = g := by omega
  simp only [kvCol, h0, h1, h2]
  rw [if_neg (by omega)]
  by_cases h : l < 64
  · rw [if_pos h, if_pos (by omega), Nat.add_sub_cancel_left]
  · rw [if_neg h, if_neg (by omega), if_pos (by omega)]

theorem kvCol_high (q : ℕ → EReal) (s j g l : ℕ) (hj : j < 2) (hl : l < 128) :
    kvCol q s (768 * g + 384 * j + 256 + l) = if l < 64 then Ideal.ofBits .f32 0x3F800000#32 else q (1408 + 256 * j + 64 * g + (l - 64)) := by
  have h0 : (768 * g + 384 * j + 256 + l) % 384 = 256 + l := by omega
  have h1 : (768 * g + 384 * j + 256 + l) % 768 / 384 = j := by omega
  have h2 : (768 * g + 384 * j + 256 + l) / 768 = g := by omega
  simp only [kvCol, h0, h1, h2]
  rw [if_neg (by omega), if_neg (by omega)]
  by_cases h : l < 64
  · rw [if_pos h, if_pos (by omega)]
  · rw [if_neg h, if_neg (by omega)]
    exact congrArg q (by omega)

section Tiles

variable {n N : ℕ} (P : FVec Ideal (⟨2, ![n, N]⟩ : Shape) .f32) (c s : FVec Ideal (Slab n) .f32)
  (hi : (Slab n).Iotas Kind.tc 32 [1]) (hb : (Slab n).Broadcasts (Slab n)) (hr : (Slab n).Rotates 1 none)
  (r : Fin n) (p : ℕ) (l : Fin 128)

/-- A projected row's columns. -/
abbrev rowCol (k : ℕ) : EReal := col (fun f : Fin N => P (ix2 r f)) k

theorem slice_at {o : ℕ} (h : (⟨2, ![n, N]⟩ : Shape).Slices ![0, o] (Slab n)) (ho : o + 128 ≤ N) :
    extractStridedSlice (Slab n) ![0, o] P h (ix2 r l) = rowCol P r (o + l) := by
  refine Eq.trans ?_ (col_lt (fun f : Fin N => P (ix2 r f)) ⟨o + l, by omega⟩).symm
  refine congrArg P (funext fun a => Fin.ext ?_)
  match a with
  | ⟨0, _⟩ => show 0 + (r : ℕ) = r; omega
  | ⟨1, _⟩ => rfl

/-- A slice of two heads turned, read at head `g`'s columns. -/
theorem turned_at {o : ℕ} (h : (⟨2, ![n, N]⟩ : Shape).Slices ![0, o] (Slab n)) (ho : o + 128 ≤ N)
    (hc : ∀ l : Fin 128, c (ix2 r l) = cosTab p l) (hs : ∀ l : Fin 128, s (ix2 r l) = sinTab p l) (g : ℕ) (i : Fin 64) (hg : g < 2) :
    ropeSlab hi hb hr (extractStridedSlice (Slab n) ![0, o] P h) c s (ix2 r ⟨64 * g + i, by omega⟩)
      = ropeAt (fun i => rowCol P r (o + 64 * g + i)) p i := by
  rw [ropeSlab_tab hi hb hr _ c s r _ p hc hs]
  have hi' : (⟨(64 * g + (i : ℕ)) % 64, by omega⟩ : Fin 64) = i := Fin.ext (by dsimp only; omega)
  show ropeAt _ p ⟨(64 * g + (i : ℕ)) % 64, _⟩ = _
  rw [hi']
  refine congrArg (fun q => ropeAt q p _) (funext fun j => (slice_at P r _ h ho).trans (congrArg (rowCol P r) ?_))
  dsimp only
  omega

/-- The first head's turned keys, twice. -/
theorem key_first (j : ℕ) {o : ℕ} (h : (⟨2, ![n, N]⟩ : Shape).Slices ![0, o] (Slab n)) (ho : o + 128 ≤ N)
    (hc : ∀ l : Fin 128, c (ix2 r l) = cosTab p l) (hs : ∀ l : Fin 128, s (ix2 r l) = sinTab p l) (hj : j < 2) (hoj : o = 1280 + 256 * j) :
    select (lowCols hi) (ropeSlab hi hb hr (extractStridedSlice (Slab n) ![0, o] P h) c s)
        (dynamicRotate 1 64#32 none (ropeSlab hi hb hr (extractStridedSlice (Slab n) ![0, o] P h) c s) hr) (ix2 r l)
      = kvCol (rowCol P r) p (384 * j + l) := by
  refine (twice_at hi hr _ r l).trans ?_
  have e := kvCol_key (rowCol P r) p j 0 l hj l.isLt
  rw [show 768 * 0 + 384 * j + (l : ℕ) = 384 * j + l by omega] at e
  refine Eq.trans ?_ e.symm
  have t := turned_at P c s hi hb hr r p h ho hc hs 0 ⟨(l : ℕ) % 64, by omega⟩ (by omega)
  have hx : (⟨64 * 0 + (l : ℕ) % 64, by omega⟩ : Fin 128) = ⟨(l : ℕ) % 64, by omega⟩ := Fin.ext (by dsimp only; omega)
  rw [hx] at t
  refine t.trans (congrArg (fun q => ropeAt q p _) (funext fun i => congrArg (rowCol P r) ?_))
  omega

/-- The second head's. -/
theorem key_second (j : ℕ) {o : ℕ} (h : (⟨2, ![n, N]⟩ : Shape).Slices ![0, o] (Slab n)) (ho : o + 128 ≤ N)
    (hc : ∀ l : Fin 128, c (ix2 r l) = cosTab p l) (hs : ∀ l : Fin 128, s (ix2 r l) = sinTab p l) (hj : j < 2) (hoj : o = 1280 + 256 * j) :
    select (lowCols hi) (dynamicRotate 1 64#32 none (ropeSlab hi hb hr (extractStridedSlice (Slab n) ![0, o] P h) c s) hr)
        (ropeSlab hi hb hr (extractStridedSlice (Slab n) ![0, o] P h) c s) (ix2 r l)
      = kvCol (rowCol P r) p (768 + 384 * j + l) := by
  refine (twice_high_at hi hr _ r l).trans ?_
  refine Eq.trans ?_ (kvCol_key (rowCol P r) p j 1 l hj l.isLt).symm
  refine (turned_at P c s hi hb hr r p h ho hc hs 1 ⟨(l : ℕ) % 64, by omega⟩ (by omega)).trans ?_
  refine congrArg (fun q => ropeAt q p _) (funext fun i => congrArg (rowCol P r) ?_)
  omega

variable (one : FVec Ideal (Slab n) .f32)

/-- The first head's values, before ones. -/
theorem value_first_low (j : ℕ) {o : ℕ} (h : (⟨2, ![n, N]⟩ : Shape).Slices ![0, o] (Slab n)) (ho : o + 128 ≤ N)
    (h1 : one (ix2 r l) = Ideal.ofBits .f32 0x3F800000#32) (hj : j < 2) (hoj : o = 1408 + 256 * j) :
    select (lowCols hi) (select (lowCols hi) (extractStridedSlice (Slab n) ![0, o] P h)
        (dynamicRotate 1 64#32 none (extractStridedSlice (Slab n) ![0, o] P h) hr)) one (ix2 r l)
      = kvCol (rowCol P r) p (384 * j + 128 + l) := by
  have e := kvCol_low (rowCol P r) p j 0 l hj l.isLt
  rw [show 768 * 0 + 384 * j + 128 + (l : ℕ) = 384 * j + 128 + l by omega] at e
  rw [e, pick_at, h1, twice_at, slice_at P r _ h ho]
  by_cases hl : (l : ℕ) < 64
  · rw [if_pos hl, if_pos hl]
    exact congrArg (rowCol P r) (by dsimp only; omega)
  · rw [if_neg hl, if_neg hl]

/-- The first head's values, after ones. -/
theorem value_first_high (j : ℕ) {o : ℕ} (h : (⟨2, ![n, N]⟩ : Shape).Slices ![0, o] (Slab n)) (ho : o + 128 ≤ N)
    (h1 : one (ix2 r l) = Ideal.ofBits .f32 0x3F800000#32) (hj : j < 2) (hoj : o = 1408 + 256 * j) :
    select (lowCols hi) one (select (lowCols hi) (extractStridedSlice (Slab n) ![0, o] P h)
        (dynamicRotate 1 64#32 none (extractStridedSlice (Slab n) ![0, o] P h) hr)) (ix2 r l)
      = kvCol (rowCol P r) p (384 * j + 256 + l) := by
  have e := kvCol_high (rowCol P r) p j 0 l hj l.isLt
  rw [show 768 * 0 + 384 * j + 256 + (l : ℕ) = 384 * j + 256 + l by omega] at e
  rw [e, pick_at, h1, twice_at, slice_at P r _ h ho]
  by_cases hl : (l : ℕ) < 64
  · rw [if_pos hl, if_pos hl]
  · rw [if_neg hl, if_neg hl]
    exact congrArg (rowCol P r) (by dsimp only; omega)

/-- The second head's values, before ones. -/
theorem value_second_low (j : ℕ) {o : ℕ} (h : (⟨2, ![n, N]⟩ : Shape).Slices ![0, o] (Slab n)) (ho : o + 128 ≤ N)
    (h1 : one (ix2 r l) = Ideal.ofBits .f32 0x3F800000#32) (hj : j < 2) (hoj : o = 1408 + 256 * j) :
    select (lowCols hi) (select (lowCols hi) (dynamicRotate 1 64#32 none (extractStridedSlice (Slab n) ![0, o] P h) hr)
        (extractStridedSlice (Slab n) ![0, o] P h)) one (ix2 r l)
      = kvCol (rowCol P r) p (768 + 384 * j + 128 + l) := by
  refine Eq.trans ?_ (kvCol_low (rowCol P r) p j 1 l hj l.isLt).symm
  rw [pick_at, h1, twice_high_at, slice_at P r _ h ho]
  by_cases hl : (l : ℕ) < 64
  · rw [if_pos hl, if_pos hl]
    exact congrArg (rowCol P r) (by dsimp only; omega)
  · rw [if_neg hl, if_neg hl]

/-- The second head's values, after ones. -/
theorem value_second_high (j : ℕ) {o : ℕ} (h : (⟨2, ![n, N]⟩ : Shape).Slices ![0, o] (Slab n)) (ho : o + 128 ≤ N)
    (h1 : one (ix2 r l) = Ideal.ofBits .f32 0x3F800000#32) (hj : j < 2) (hoj : o = 1408 + 256 * j) :
    select (lowCols hi) one (select (lowCols hi) (dynamicRotate 1 64#32 none (extractStridedSlice (Slab n) ![0, o] P h) hr)
        (extractStridedSlice (Slab n) ![0, o] P h)) (ix2 r l)
      = kvCol (rowCol P r) p (768 + 384 * j + 256 + l) := by
  refine Eq.trans ?_ (kvCol_high (rowCol P r) p j 1 l hj l.isLt).symm
  rw [pick_at, h1, twice_high_at, slice_at P r _ h ho]
  by_cases hl : (l : ℕ) < 64
  · rw [if_pos hl, if_pos hl]
  · rw [if_neg hl, if_neg hl]
    exact congrArg (rowCol P r) (by dsimp only; omega)

end Tiles

variable (x : FVec Ideal (⟨3, ![16, 2048, 1024]⟩ : Shape) .f32) (g : FVec Ideal (⟨2, ![4, 1024]⟩ : Shape) .f32)
  (w : FVec Ideal (⟨2, ![1024, 1840]⟩ : Shape) .f32)

/-- A token's projected columns. -/
abbrev projCol (b : Fin 16) (s : Fin 2048) (k : ℕ) : EReal := col (projTok x g w b s) k

/-- The keys and values of the selected and the windowed branch. -/
def kvTok (b : Fin 16) (s : Fin 2048) (d : Fin 1536) : EReal := kvCol (projCol x g w b s) s d

/-- The keys of the compressed branch, before the compression. -/
def kcTok (b : Fin 16) (s : Fin 2048) (d : Fin 128) : EReal := projTok x g w b s ⟨1024 + d, by omega⟩

/-- The values of the compressed branch, before the compression. -/
def vcTok (b : Fin 16) (s : Fin 2048) (d : Fin 128) : EReal := projTok x g w b s ⟨1152 + d, by omega⟩

/-- The logistic function. -/
def sigmoid (z : EReal) : EReal := Ideal.logistic z

/-- The gates, in 128 columns of which the last 80 belong to none, and once more from the second group's on. -/
def gateTok (b : Fin 16) (s : Fin 2048) (d : Fin 256) : EReal :=
  sigmoid (projCol x g w b s (1792 + if (d : ℕ) < 128 then (d : ℕ) else ((d : ℕ) - 128 + 24) % 128))

end Cert.Nsa

end
-- ==== Proof.NsaResult.lean ====
/- The native sparse mixer's input projection kernel: one grid point's 512 rows, and the result arrays after the run. -/
module

public import proofs.«01_k».proof.Proof.Gen.NsaInIdeal.Value
public import proofs.«01_k».proof.Proof.NsaLayer
public import Idealize.ShloMosaic.Lib.Pipeline.ValueKit

@[expose] public section

set_option maxRecDepth 16384

noncomputable section

namespace Cert.NsaInIdeal.Tok

open Cert.NsaInIdeal Cert.NsaInIdeal.Gen Idealize.ShloMosaic Idealize.ShloMosaic.TcCoe Idealize.SL.Sem
open Idealize.ShloMosaic.Pipeline (Dat)
open Cert.Ffn (unitRow)
open Cert.Mixer Cert.Nsa

variable (m : (ℓ : Loc nD τ sig) → Buf (Elt Ideal) ℓ)

/-- Every window's block at every grid point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0]
    ∧ win0_5.index t = ![t.val, 0] ∧ win0_6.index t = ![t.val, 0] ∧ win0_7.index t = ![t.val, 0] ∧ win0_8.index t = ![t.val, 0]
    ∧ win0_9.index t = ![t.val, 0] ∧ t.val < 64 :=
  (by decide +kernel : ∀ t : Fin grid0.N, _)

theorem lt64 (t : Fin cfg0.N) : t.val < 64 := (idx t).2.2.2.2.2.2.2.2.2.2

/-- The token number of row `r` of block `t`. -/
def tok (t : Fin cfg0.N) (r : Fin 512) : Fin 2048 := ⟨512 * (t.val % 4) + r, by omega⟩
/-- The sequence of block `t`. -/
def seq (t : Fin cfg0.N) : Fin 16 := ⟨t.val / 4, by have := lt64 t; omega⟩

abbrev Xa (c : Dev nD) : FVec Ideal S16x2048x1024 .f32 := m ((c : Thread nD τ).loc main_arg0)
abbrev Ga (c : Dev nD) : FVec Ideal S4x1024 .f32 := m ((c : Thread nD τ).loc main_arg1)
abbrev Wa (c : Dev nD) : FVec Ideal S1024x1840 .f32 := m ((c : Thread nD τ).loc main_arg2)

theorem x_at (c : Dev nD) (t : Fin cfg0.N) (r : Fin 512) (k : Fin 1024) :
    (show FVec Ideal S512x1024 .f32 from iblk m c 0 t) (ix2 r k) = Xa m c (ix3 (seq t) (tok t r) k) := by
  have := t.isLt
  blk_simp [iblk, idx t]
  dsimp only [V, hostOps0, hostOps0_1, hostOps0_2, List.flatten_cons, List.flatten_nil, List.append_nil, List.cons_append, List.nil_append]
  entry_read
  pointwise
  blk_ext [idx t, seq, tok]

theorem g_at (c : Dev nD) (t : Fin cfg0.N) (k : Fin 1024) :
    (show FVec Ideal S1x1024 .f32 from iblk m c 1 t) (ix2 0 k) = Ga m c (ix2 0 k) := by
  blk_simp [iblk, idx t]
  dsimp only [V, hostOps0, hostOps0_1, hostOps0_2, List.flatten_cons, List.flatten_nil, List.append_nil, List.cons_append, List.nil_append]
  entry_read
  pointwise
  blk_ext [idx t]

/-- The weights as the kernel finds them, with columns of zeros after the last. -/
theorem w_at (c : Dev nD) (t : Fin cfg0.N) (k : Fin 1024) (f : Fin 1920) :
    (show FVec Ideal S1024x1920 .bf16 from iblk m c 2 t) (ix2 k f) = if hf : (f : ℕ) < 1840 then Wa m c (ix2 k ⟨f, hf⟩) else 0 := by
  blk_simp [iblk, idx t]
  dsimp only [V, hostOps0, hostOps0_1, hostOps0_2, List.flatten_cons, List.flatten_nil, List.append_nil, List.cons_append, List.nil_append]
  entry_read
  have hy : (((View.whole main_v28).slice (win0_2.rect t)).emb (ix2 k f) : S1024x1920.Idx) = ix2 k f := by
    blk_ext [idx t]
  show pad S1024x1920 ![0, 0] ![0, 80] ![0, 0] (Wa m c) (sitofp (F := Ideal) FTy.f32 (constantI S_ 32 0#32))
    pads_S1024x1840_S1024x1920_000_0800 h_S_ (((View.whole main_v28).slice (win0_2.rect t)).emb (ix2 k f)) = _
  rw [hy]
  pointwise
  split
  · rfl
  · exact zero_cell

theorem cos_at (c : Dev nD) (t : Fin cfg0.N) (r : Fin 512) (l : Fin 128) :
    (show FVec Ideal S512x128 .f32 from iblk m c 3 t) (ix2 r l) = cosTab (tok t r) l := by
  blk_simp [iblk, idx t]
  dsimp only [V, hostOps0, hostOps0_1, hostOps0_2, List.flatten_cons, List.flatten_nil, List.append_nil, List.cons_append, List.nil_append]
  entry_read
  have hy : (((View.whole main_v18).slice (win0_3.rect t)).emb (ix2 r l) : S2048x128.Idx) = ix2 (tok t r) l := by
    have := t.isLt
    blk_ext [idx t, tok]
  generalize (((View.whole main_v18).slice (win0_3.rect t)).emb (ix2 r l) : S2048x128.Idx) = y at hy ⊢
  subst hy
  pointwise
  rfl

theorem sin_at (c : Dev nD) (t : Fin cfg0.N) (r : Fin 512) (l : Fin 128) :
    (show FVec Ideal S512x128 .f32 from iblk m c 4 t) (ix2 r l) = sinTab (tok t r) l := by
  blk_simp [iblk, idx t]
  dsimp only [V, hostOps0, hostOps0_1, hostOps0_2, List.flatten_cons, List.flatten_nil, List.append_nil, List.cons_append, List.nil_append]
  entry_read
  have hy : (((View.whole main_v23).slice (win0_4.rect t)).emb (ix2 r l) : S2048x128.Idx) = ix2 (tok t r) l := by
    have := t.isLt
    blk_ext [idx t, tok]
  generalize (((View.whole main_v23).slice (win0_4.rect t)).emb (ix2 r l) : S2048x128.Idx) = y at hy ⊢
  subst hy
  pointwise
  rfl

/-- A projected row of the block. -/
theorem pay3_at (X : FVec Ideal S512x1024 .f32) (G : FVec Ideal S1x1024 .f32) (W : FVec Ideal S1024x1920 .bf16) (r : Fin 512) (f : Fin 1920) :
    k0_pay3 (F := Ideal) X G W (ix2 r f) = ∑ k : Fin 1024, unitRow (fun d => X (ix2 r d)) k * G (ix2 0 k) * W (ix2 k f) := by
  pointwise [k0_pay3]
  rfl

/-- The block's projected rows over the arguments; the columns past the weights' last are zero. -/
theorem proj_at (c : Dev nD) (t : Fin cfg0.N) (r : Fin 512) (f : Fin 1920) :
    k0_pay71 (F := Ideal) (iblk m c 0 t) (iblk m c 1 t) (iblk m c 2 t) (iblk m c 3 t) (iblk m c 4 t) (ix2 r f) = projCol (Xa m c) (Ga m c) (Wa m c) (seq t) (tok t r) f := by
  unfold k0_pay71
  frame_out
  refine (pay3_at _ _ _ r f).trans ?_
  unfold projCol col
  split
  · rename_i hf
    unfold projTok
    refine Finset.sum_congr rfl fun k _ => congrArg₂ (· * ·) (congrArg₂ (· * ·) (congrArg (fun z => unitRow z k) (funext fun d => ?_)) (g_at m c t k)) ((w_at m c t k f).trans (dif_pos hf))
    exact x_at m c t r d
  · rename_i hf
    refine Finset.sum_eq_zero fun k _ => (congrArg (_ * ·) ((w_at m c t k f).trans (dif_neg hf))).trans (mul_zero _)

/-- The same row, read at any column. -/
theorem row_eq (c : Dev nD) (t : Fin cfg0.N) (r : Fin 512) :
    rowCol (k0_pay71 (F := Ideal) (iblk m c 0 t) (iblk m c 1 t) (iblk m c 2 t) (iblk m c 3 t) (iblk m c 4 t)) r = projCol (Xa m c) (Ga m c) (Wa m c) (seq t) (tok t r) := by
  refine funext fun k => ?_
  by_cases hk : k < 1920
  · exact (col_lt _ ⟨k, hk⟩).trans (proj_at m c t r ⟨k, hk⟩)
  · exact (col_ge _ k (by omega)).trans (col_ge _ k (by omega)).symm

theorem cosBlk_at (c : Dev nD) (t : Fin cfg0.N) (r : Fin 512) (l : Fin 128) :
    k0_pay72 (F := Ideal) (iblk m c 0 t) (iblk m c 1 t) (iblk m c 2 t) (iblk m c 3 t) (iblk m c 4 t) (ix2 r l) = cosTab (tok t r) l := by
  unfold k0_pay72 k0_pay4
  frame_out
  pointwise
  exact cos_at m c t r l

theorem sinBlk_at (c : Dev nD) (t : Fin cfg0.N) (r : Fin 512) (l : Fin 128) :
    k0_pay73 (F := Ideal) (iblk m c 0 t) (iblk m c 1 t) (iblk m c 2 t) (iblk m c 3 t) (iblk m c 4 t) (ix2 r l) = sinTab (tok t r) l := by
  unfold k0_pay73 k0_pay5
  frame_out
  pointwise
  exact sin_at m c t r l

/-- The queries' block: eight stores of 128 columns. -/
theorem q_block (x0 x1 x2 x3 x4) (r : Fin 512) (d : Fin 1024) (p : ℕ)
    (hc : ∀ l : Fin 128, k0_pay72 (F := Ideal) x0 x1 x2 x3 x4 (ix2 r l) = cosTab p l)
    (hs : ∀ l : Fin 128, k0_pay73 (F := Ideal) x0 x1 x2 x3 x4 (ix2 r l) = sinTab p l) :
    out0_5 x0 x1 x2 x3 x4 (ix2 r d)
      = ropeAt (fun j => k0_pay71 (F := Ideal) x0 x1 x2 x3 x4 (ix2 r ⟨0 + 64 * (d / 64) + j, by omega⟩)) p ⟨d % 64, by omega⟩
          * Ideal.ofBits .f32 0x3E38AA3B#32 := by
  canon_tiles x h
  all_goals
    try replace h1 : (d : ℕ) = 0 + (x 1 : ℕ) := h1.trans (Nat.zero_add _).symm
    refine Eq.trans ?_ (rope_cols_scaled (hi := iota_S512x128_d1_w32) (hb := broadcasts_S512x128_S512x128) (hr := rotates_S512x128_d1)
      (hbits := bitsLt_bf16_f32) (h := by decide) (k0_pay71 (F := Ideal) x0 x1 x2 x3 x4) (k0_pay72 (F := Ideal) x0 x1 x2 x3 x4)
      (k0_pay73 (F := Ideal) x0 x1 x2 x3 x4) r p hc hs 0 d _ (by omega) x h0 h1 (Nat.zero_add _).symm (by decide))
    rfl

/-- The keys' and values' block: for either group and either branch the turned keys twice, then the values beside ones. -/
theorem kv_block (x0 x1 x2 x3 x4) (r : Fin 512) (d : Fin 1536) (p : ℕ)
    (hc : ∀ l : Fin 128, k0_pay72 (F := Ideal) x0 x1 x2 x3 x4 (ix2 r l) = cosTab p l)
    (hs : ∀ l : Fin 128, k0_pay73 (F := Ideal) x0 x1 x2 x3 x4 (ix2 r l) = sinTab p l) :
    out0_6 x0 x1 x2 x3 x4 (ix2 r d) = kvCol (rowCol (k0_pay71 (F := Ideal) x0 x1 x2 x3 x4) r) p d := by
  have hm : ∀ (x : S512x128.Idx) (b : ℕ), ((ix2 r d : S512x1536.Idx) 0 : ℕ) = x 0 → ((ix2 r d : S512x1536.Idx) 1 : ℕ) = b + x 1 → ∃ l : Fin 128, (d : ℕ) = b + l ∧ x = ix2 r l :=
    fun x b h0 h1 => ⟨x 1, h1, funext fun a => match a with
      | ⟨0, _⟩ => Fin.ext h0.symm
      | ⟨1, _⟩ => rfl⟩
  canon_tiles x h
  · obtain ⟨l, hl, rfl⟩ := hm x 1408 h0 h1
    refine Eq.trans ?_ ((value_second_high (k0_pay71 (F := Ideal) x0 x1 x2 x3 x4) iota_S512x128_d1_w32 rotates_S512x128_d1 r p l (broadcast S512x128 (Scalar.ofBits .f32 0x3F800000#32)) 1
      slices_S512x1920_o0_1664_S512x128 (by decide) rfl (by decide) rfl).trans (congrArg (kvCol _ p) (by omega)))
    rfl
  · obtain ⟨l, hl, rfl⟩ := hm x 1280 h0 h1
    refine Eq.trans ?_ ((value_second_low (k0_pay71 (F := Ideal) x0 x1 x2 x3 x4) iota_S512x128_d1_w32 rotates_S512x128_d1 r p l (broadcast S512x128 (Scalar.ofBits .f32 0x3F800000#32)) 1
      slices_S512x1920_o0_1664_S512x128 (by decide) rfl (by decide) rfl).trans (congrArg (kvCol _ p) (by omega)))
    rfl
  · obtain ⟨l, hl, rfl⟩ := hm x 1152 h0 h1
    refine Eq.trans ?_ ((key_second (k0_pay71 (F := Ideal) x0 x1 x2 x3 x4) (k0_pay72 (F := Ideal) x0 x1 x2 x3 x4)
      (k0_pay73 (F := Ideal) x0 x1 x2 x3 x4) iota_S512x128_d1_w32 broadcasts_S512x128_S512x128 rotates_S512x128_d1 r p l 1
      slices_S512x1920_o0_1536_S512x128 (by decide) hc hs (by decide) rfl).trans (congrArg (kvCol _ p) (by omega)))
    rfl
  · obtain ⟨l, hl, rfl⟩ := hm x 640 h0 h1
    refine Eq.trans ?_ ((value_first_high (k0_pay71 (F := Ideal) x0 x1 x2 x3 x4) iota_S512x128_d1_w32 rotates_S512x128_d1 r p l (broadcast S512x128 (Scalar.ofBits .f32 0x3F800000#32)) 1
      slices_S512x1920_o0_1664_S512x128 (by decide) rfl (by decide) rfl).trans (congrArg (kvCol _ p) (by omega)))
    rfl
  · obtain ⟨l, hl, rfl⟩ := hm x 512 h0 h1
    refine Eq.trans ?_ ((value_first_low (k0_pay71 (F := Ideal) x0 x1 x2 x3 x4) iota_S512x128_d1_w32 rotates_S512x128_d1 r p l (broadcast S512x128 (Scalar.ofBits .f32 0x3F800000#32)) 1
      slices_S512x1920_o0_1664_S512x128 (by decide) rfl (by decide) rfl).trans (congrArg (kvCol _ p) (by omega)))
    rfl
  · obtain ⟨l, hl, rfl⟩ := hm x 384 h0 h1
    refine Eq.trans ?_ ((key_first (k0_pay71 (F := Ideal) x0 x1 x2 x3 x4) (k0_pay72 (F := Ideal) x0 x1 x2 x3 x4)
      (k0_pay73 (F := Ideal) x0 x1 x2 x3 x4) iota_S512x128_d1_w32 broadcasts_S512x128_S512x128 rotates_S512x128_d1 r p l 1
      slices_S512x1920_o0_1536_S512x128 (by decide) hc hs (by decide) rfl).trans (congrArg (kvCol _ p) (by omega)))
    rfl
  · obtain ⟨l, hl, rfl⟩ := hm x 1024 h0 h1
    refine Eq.trans ?_ ((value_second_high (k0_pay71 (F := Ideal) x0 x1 x2 x3 x4) iota_S512x128_d1_w32 rotates_S512x128_d1 r p l (broadcast S512x128 (Scalar.ofBits .f32 0x3F800000#32)) 0
      slices_S512x1920_o0_1408_S512x128 (by decide) rfl (by decide) rfl).trans (congrArg (kvCol _ p) (by omega)))
    rfl
  · obtain ⟨l, hl, rfl⟩ := hm x 896 h0 h1
    refine Eq.trans ?_ ((value_second_low (k0_pay71 (F := Ideal) x0 x1 x2 x3 x4) iota_S512x128_d1_w32 rotates_S512x128_d1 r p l (broadcast S512x128 (Scalar.ofBits .f32 0x3F800000#32)) 0
      slices_S512x1920_o0_1408_S512x128 (by decide) rfl (by decide) rfl).trans (congrArg (kvCol _ p) (by omega)))
    rfl
  · obtain ⟨l, hl, rfl⟩ := hm x 768 h0 h1
    refine Eq.trans ?_ ((key_second (k0_pay71 (F := Ideal) x0 x1 x2 x3 x4) (k0_pay72 (F := Ideal) x0 x1 x2 x3 x4)
      (k0_pay73 (F := Ideal) x0 x1 x2 x3 x4) iota_S512x128_d1_w32 broadcasts_S512x128_S512x128 rotates_S512x128_d1 r p l 0
      slices_S512x1920_o0_1280_S512x128 (by decide) hc hs (by decide) rfl).trans (congrArg (kvCol _ p) (by omega)))
    rfl
  · obtain ⟨l, hl, rfl⟩ := hm x 256 h0 h1
    refine Eq.trans ?_ ((value_first_high (k0_pay71 (F := Ideal) x0 x1 x2 x3 x4) iota_S512x128_d1_w32 rotates_S512x128_d1 r p l (broadcast S512x128 (Scalar.ofBits .f32 0x3F800000#32)) 0
      slices_S512x1920_o0_1408_S512x128 (by decide) rfl (by decide) rfl).trans (congrArg (kvCol _ p) (by omega)))
    rfl
  · obtain ⟨l, hl, rfl⟩ := hm x 128 h0 h1
    refine Eq.trans ?_ ((value_first_low (k0_pay71 (F := Ideal) x0 x1 x2 x3 x4) iota_S512x128_d1_w32 rotates_S512x128_d1 r p l (broadcast S512x128 (Scalar.ofBits .f32 0x3F800000#32)) 0
      slices_S512x1920_o0_1408_S512x128 (by decide) rfl (by decide) rfl).trans (congrArg (kvCol _ p) (by omega)))
    rfl
  · obtain ⟨l, hl, rfl⟩ := hm x 0 h0 (h1.trans (Nat.zero_add _).symm)
    refine Eq.trans ?_ ((key_first (k0_pay71 (F := Ideal) x0 x1 x2 x3 x4) (k0_pay72 (F := Ideal) x0 x1 x2 x3 x4)
      (k0_pay73 (F := Ideal) x0 x1 x2 x3 x4) iota_S512x128_d1_w32 broadcasts_S512x128_S512x128 rotates_S512x128_d1 r p l 0
      slices_S512x1920_o0_1280_S512x128 (by decide) hc hs (by decide) rfl).trans (congrArg (kvCol _ p) (by omega)))
    rfl

/-- The logistic function, as the kernel computes it. -/
theorem gate_at (z : FVec Ideal S512x128 .f32) (r : Fin 512) (l : Fin 128) :
    k0_pay1 (F := Ideal) z (k0_pay70 (F := Ideal)) (ix2 r l) = sigmoid (z (ix2 r l)) := by
  unfold sigmoid
  pointwise [k0_pay1, k0_pay70]
  rw [zero_sub]
  rfl

/-- The gates' block: its columns once, and once more from the second group's on. -/
theorem gate_block (x0 x1 x2 x3 x4) (r : Fin 512) (d : Fin 256) :
    out0_9 (F := Ideal) x0 x1 x2 x3 x4 (ix2 r d)
      = sigmoid (rowCol (k0_pay71 (F := Ideal) x0 x1 x2 x3 x4) r (1792 + if (d : ℕ) < 128 then (d : ℕ) else ((d : ℕ) - 128 + 24) % 128)) := by
  have hm : ∀ (x : S512x128.Idx) (b : ℕ), ((ix2 r d : S512x256.Idx) 0 : ℕ) = x 0 → ((ix2 r d : S512x256.Idx) 1 : ℕ) = b + x 1 → ∃ l : Fin 128, (d : ℕ) = b + l ∧ x = ix2 r l :=
    fun x b h0 h1 => ⟨x 1, h1, funext fun a => match a with
      | ⟨0, _⟩ => Fin.ext h0.symm
      | ⟨1, _⟩ => rfl⟩
  canon_tiles x h
  · obtain ⟨l, hl, rfl⟩ := hm x 128 h0 h1
    rw [if_neg (show ¬ (d : ℕ) < 128 by omega)]
    refine (turn_at rotates_S512x128_d1 (k0_pay1 (F := Ideal) (k0_pay69 (k0_pay71 x0 x1 x2 x3 x4)) (k0_pay70 (F := Ideal))) 104 (by decide) r l).trans ?_
    refine (gate_at _ _ _).trans (congrArg sigmoid ?_)
    refine (slice_at (k0_pay71 (F := Ideal) x0 x1 x2 x3 x4) r _ slices_S512x1920_o0_1792_S512x128 (by decide)).trans (congrArg (rowCol _ r) ?_)
    dsimp only
    omega
  · obtain ⟨l, hl, rfl⟩ := hm x 0 h0 (h1.trans (Nat.zero_add _).symm)
    rw [if_pos (show (d : ℕ) < 128 by omega)]
    refine (gate_at (k0_pay69 (k0_pay71 x0 x1 x2 x3 x4)) r l).trans (congrArg sigmoid ?_)
    exact (slice_at (k0_pay71 (F := Ideal) x0 x1 x2 x3 x4) r _ slices_S512x1920_o0_1792_S512x128 (by decide)).trans (congrArg (rowCol _ r) (by omega))

/-- The queries of a point over the arguments. -/
theorem point5 (c : Dev nD) (t : Fin cfg0.N) (r : Fin 512) (d : Fin 1024) :
    out0_5 (iblk m c 0 t) (iblk m c 1 t) (iblk m c 2 t) (iblk m c 3 t) (iblk m c 4 t) (ix2 r d) = qTok (n := 1840) (by decide) (Xa m c) (Ga m c) (Wa m c) (seq t) (tok t r) d := by
  refine (q_block _ _ _ _ _ r d _ (cosBlk_at m c t r) (sinBlk_at m c t r)).trans ?_
  unfold qTok
  refine congrArg (· * _) (congrArg (fun z => ropeAt z _ _) (funext fun j => ?_))
  refine (proj_at m c t r _).trans ?_
  refine (dif_pos (by dsimp only; omega)).trans ?_
  exact congrArg (projTok _ _ _ _ _) (Fin.ext (by dsimp only; omega))

/-- The keys and values of a point over the arguments. -/
theorem point6 (c : Dev nD) (t : Fin cfg0.N) (r : Fin 512) (d : Fin 1536) :
    out0_6 (iblk m c 0 t) (iblk m c 1 t) (iblk m c 2 t) (iblk m c 3 t) (iblk m c 4 t) (ix2 r d) = kvTok (Xa m c) (Ga m c) (Wa m c) (seq t) (tok t r) d := by
  refine (kv_block _ _ _ _ _ r d _ (cosBlk_at m c t r) (sinBlk_at m c t r)).trans ?_
  rw [row_eq]
  rfl

/-- The compressed branch's keys of a point over the arguments. -/
theorem point7 (c : Dev nD) (t : Fin cfg0.N) (r : Fin 512) (d : Fin 128) :
    out0_7 (iblk m c 0 t) (iblk m c 1 t) (iblk m c 2 t) (iblk m c 3 t) (iblk m c 4 t) (ix2 r d) = kcTok (Xa m c) (Ga m c) (Wa m c) (seq t) (tok t r) d := by
  unfold out0_7
  frame_out
  refine (slice_at (k0_pay71 (F := Ideal) (iblk m c 0 t) (iblk m c 1 t) (iblk m c 2 t) (iblk m c 3 t) (iblk m c 4 t)) r d slices_S512x1920_o0_1024_S512x128 (by decide)).trans ?_
  rw [row_eq]
  exact dif_pos (by omega)

/-- The compressed branch's values of a point over the arguments. -/
theorem point8 (c : Dev nD) (t : Fin cfg0.N) (r : Fin 512) (d : Fin 128) :
    out0_8 (iblk m c 0 t) (iblk m c 1 t) (iblk m c 2 t) (iblk m c 3 t) (iblk m c 4 t) (ix2 r d) = vcTok (Xa m c) (Ga m c) (Wa m c) (seq t) (tok t r) d := by
  unfold out0_8
  frame_out
  refine (slice_at (k0_pay71 (F := Ideal) (iblk m c 0 t) (iblk m c 1 t) (iblk m c 2 t) (iblk m c 3 t) (iblk m c 4 t)) r d slices_S512x1920_o0_1152_S512x128 (by decide)).trans ?_
  rw [row_eq]
  exact dif_pos (by omega)

/-- The gates of a point over the arguments. -/
theorem point9 (c : Dev nD) (t : Fin cfg0.N) (r : Fin 512) (d : Fin 256) :
    out0_9 (iblk m c 0 t) (iblk m c 1 t) (iblk m c 2 t) (iblk m c 3 t) (iblk m c 4 t) (ix2 r d) = gateTok (Xa m c) (Ga m c) (Wa m c) (seq t) (tok t r) d := by
  refine (gate_block _ _ _ _ _ r d).trans ?_
  rw [row_eq]
  rfl

/-- The array after the run. -/
theorem final5 (c : Dev nD) : (dats m 0 c).arrAt 5 cfg0.N = flat (e := .bf16) (qTok (n := 1840) (by decide) (Xa m c) (Ga m c) (Wa m c)) := by
  refine (dats m 0 c).arrAt_eq_of_covers 5 _ (by decide +kernel) fun t _ y => ?_
  blk_simp
  rw [after0_5]
  idx_vars y
  refine (point5 m c t _ _).trans ?_
  have ht := lt64 t
  have hy : (((cfg0.win 5).blk t).view.emb (ix2 y0 y1) : S32768x1024.Idx) = ix2 ⟨512 * t.val + y0, by omega⟩ y1 := by
    blk_ext [idx t]
  exact ((congrArg (flat (e := .bf16) (qTok (n := 1840) (by decide) (Xa m c) (Ga m c) (Wa m c))) hy).trans (flat_at _ t y0 ht y0.isLt y1)).symm

/-- The array after the run. -/
theorem final6 (c : Dev nD) : (dats m 0 c).arrAt 6 cfg0.N = flat (e := .bf16) (kvTok (Xa m c) (Ga m c) (Wa m c)) := by
  refine (dats m 0 c).arrAt_eq_of_covers 6 _ (by decide +kernel) fun t _ y => ?_
  blk_simp
  rw [after0_6]
  idx_vars y
  refine (point6 m c t _ _).trans ?_
  have ht := lt64 t
  have hy : (((cfg0.win 6).blk t).view.emb (ix2 y0 y1) : S32768x1536.Idx) = ix2 ⟨512 * t.val + y0, by omega⟩ y1 := by
    blk_ext [idx t]
  exact ((congrArg (flat (e := .bf16) (kvTok (Xa m c) (Ga m c) (Wa m c))) hy).trans (flat_at _ t y0 ht y0.isLt y1)).symm

/-- The array after the run. -/
theorem final7 (c : Dev nD) : (dats m 0 c).arrAt 7 cfg0.N = flat (e := .f32) (kcTok (Xa m c) (Ga m c) (Wa m c)) := by
  refine (dats m 0 c).arrAt_eq_of_covers 7 _ (by decide +kernel) fun t _ y => ?_
  blk_simp
  rw [after0_7]
  idx_vars y
  refine (point7 m c t _ _).trans ?_
  have ht := lt64 t
  have hy : (((cfg0.win 7).blk t).view.emb (ix2 y0 y1) : S32768x128.Idx) = ix2 ⟨512 * t.val + y0, by omega⟩ y1 := by
    blk_ext [idx t]
  exact ((congrArg (flat (e := .f32) (kcTok (Xa m c) (Ga m c) (Wa m c))) hy).trans (flat_at _ t y0 ht y0.isLt y1)).symm

/-- The array after the run. -/
theorem final8 (c : Dev nD) : (dats m 0 c).arrAt 8 cfg0.N = flat (e := .f32) (vcTok (Xa m c) (Ga m c) (Wa m c)) := by
  refine (dats m 0 c).arrAt_eq_of_covers 8 _ (by decide +kernel) fun t _ y => ?_
  blk_simp
  rw [after0_8]
  idx_vars y
  refine (point8 m c t _ _).trans ?_
  have ht := lt64 t
  have hy : (((cfg0.win 8).blk t).view.emb (ix2 y0 y1) : S32768x128.Idx) = ix2 ⟨512 * t.val + y0, by omega⟩ y1 := by
    blk_ext [idx t]
  exact ((congrArg (flat (e := .f32) (vcTok (Xa m c) (Ga m c) (Wa m c))) hy).trans (flat_at _ t y0 ht y0.isLt y1)).symm

/-- The array after the run. -/
theorem final9 (c : Dev nD) : (dats m 0 c).arrAt 9 cfg0.N = flat (e := .f32) (gateTok (Xa m c) (Ga m c) (Wa m c)) := by
  refine (dats m 0 c).arrAt_eq_of_covers 9 _ (by decide +kernel) fun t _ y => ?_
  blk_simp
  rw [after0_9]
  idx_vars y
  refine (point9 m c t _ _).trans ?_
  have ht := lt64 t
  have hy : (((cfg0.win 9).blk t).view.emb (ix2 y0 y1) : S32768x256.Idx) = ix2 ⟨512 * t.val + y0, by omega⟩ y1 := by
    blk_ext [idx t]
  exact ((congrArg (flat (e := .f32) (gateTok (Xa m c) (Ga m c) (Wa m c))) hy).trans (flat_at _ t y0 ht y0.isLt y1)).symm

end Cert.NsaInIdeal.Tok

end
-- ==== Proof.NsaReference.lean ====
/- The native sparse mixer's input projection in the reference, token by token. -/
module

public import proofs.«01_k».proof.Proof.Gen.NsaInRefIdeal.Read
public import proofs.«01_k».proof.Proof.NsaLayer

@[expose] public section

set_option maxRecDepth 16384

noncomputable section

namespace Cert.NsaInRefIdeal.Tok

open Cert.NsaInRefIdeal Cert.NsaInRefIdeal.Gen Cert.NsaInRefIdeal.Read Idealize.ShloMosaic
open Cert.Mixer Cert.Nsa
open Cert.Ffn (unitRow)

variable (x : FVec Ideal S16x2048x1024 .f32) (g : FVec Ideal S4x1024 .f32) (w : FVec Ideal S1024x1840 .f32)

/-- The projection of a normalised token. -/
theorem proj_at (b : Fin 16) (s : Fin 2048) (f : Fin 1840) : val_main_v16 (F := Ideal) x g w (ix3 b s f) = projTok x g w b s f := by
  pointwise [val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16]
  unfold projTok unitRow
  rfl

/-- The same at a column given by its number. -/
theorem proj_col (b : Fin 16) (s : Fin 2048) (f : Fin 1840) (k : ℕ) (h : (f : ℕ) = k) :
    val_main_v16 (F := Ideal) x g w (ix3 b s f) = projCol x g w b s k := by
  subst h
  exact (proj_at x g w b s f).trans (col_lt _ f).symm

/-- The queries turned. -/
theorem q_at (b : Fin 16) (s : Fin 2048) (h : Fin 16) (j : Fin 64) : val_main_v58 (F := Ideal) x g w (ix4 b s h j)
    = ropeAt (fun j => projTok x g w b s ⟨64 * h + j, by omega⟩) s j := by
  have e : (fun j : Fin 64 => projTok x g w b s ⟨64 * h + j, by omega⟩) = fun j => val_main_v25 (F := Ideal) x g w (ix4 b s h j) := by
    refine funext fun j => ?_
    rw [← proj_at]
    pointwise [val_main_v17, val_main_v25]
    exact congrArg (val_main_v16 (F := Ideal) x g w) (congrArg (ix3 b s) (Fin.ext (by dsimp only; omega)))
  rw [e]
  pointwise [val_main_v0, val_main_v26, val_main_v27, val_main_cst_2, val_main_v28, val_main_v29, val_main_cst_3, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58]
  exact ropeAt_halves (fun j => val_main_v25 (F := Ideal) x g w (ix4 b s h j)) s j

/-- The selected branch's keys turned. -/
theorem ks_at (b : Fin 16) (s : Fin 2048) (h : Fin 2) (j : Fin 64) : val_main_v94 (F := Ideal) x g w (ix4 b s h j)
    = ropeAt (fun i => projCol x g w b s (1280 + 64 * h + i)) s j := by
  have e : (fun i : Fin 64 => projCol x g w b s (1280 + 64 * h + i)) = fun j => val_main_v61 (F := Ideal) x g w (ix4 b s h j) := by
    refine funext fun j => ?_
    rw [← proj_col x g w b s ⟨1280 + 64 * h + j, by omega⟩ _ rfl]
    pointwise [val_main_v20, val_main_v61]
    exact congrArg (val_main_v16 (F := Ideal) x g w) (congrArg (ix3 b s) (Fin.ext (by dsimp only; omega)))
  rw [e]
  pointwise [val_main_v0, val_main_v62, val_main_v63, val_main_cst_5, val_main_v64, val_main_v65, val_main_cst_6, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94]
  exact ropeAt_halves (fun j => val_main_v61 (F := Ideal) x g w (ix4 b s h j)) s j

/-- The windowed branch's keys turned. -/
theorem kw_at (b : Fin 16) (s : Fin 2048) (h : Fin 2) (j : Fin 64) : val_main_v128 (F := Ideal) x g w (ix4 b s h j)
    = ropeAt (fun i => projCol x g w b s (1536 + 64 * h + i)) s j := by
  have e : (fun i : Fin 64 => projCol x g w b s (1536 + 64 * h + i)) = fun j => val_main_v95 (F := Ideal) x g w (ix4 b s h j) := by
    refine funext fun j => ?_
    rw [← proj_col x g w b s ⟨1536 + 64 * h + j, by omega⟩ _ rfl]
    pointwise [val_main_v22, val_main_v95]
    exact congrArg (val_main_v16 (F := Ideal) x g w) (congrArg (ix3 b s) (Fin.ext (by dsimp only; omega)))
  rw [e]
  pointwise [val_main_v0, val_main_v96, val_main_v97, val_main_cst_7, val_main_v98, val_main_v99, val_main_cst_8, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128]
  exact ropeAt_halves (fun j => val_main_v95 (F := Ideal) x g w (ix4 b s h j)) s j

/-- The selected branch's values. -/
theorem vs_at (b : Fin 16) (s : Fin 2048) (h : Fin 2) (j : Fin 64) : val_main_v129 (F := Ideal) x g w (ix4 b s h j)
    = projCol x g w b s (1408 + 64 * h + j) := by
  rw [← proj_col x g w b s ⟨1408 + 64 * h + j, by omega⟩ _ rfl]
  pointwise [val_main_v21, val_main_v129]
  exact congrArg (val_main_v16 (F := Ideal) x g w) (congrArg (ix3 b s) (Fin.ext (by dsimp only; omega)))

/-- The windowed branch's values. -/
theorem vw_at (b : Fin 16) (s : Fin 2048) (h : Fin 2) (j : Fin 64) : val_main_v130 (F := Ideal) x g w (ix4 b s h j)
    = projCol x g w b s (1664 + 64 * h + j) := by
  rw [← proj_col x g w b s ⟨1664 + 64 * h + j, by omega⟩ _ rfl]
  pointwise [val_main_v23, val_main_v130]
  exact congrArg (val_main_v16 (F := Ideal) x g w) (congrArg (ix3 b s) (Fin.ext (by dsimp only; omega)))

/-- The queries' array. -/
theorem v144_eq : val_main_v144 (F := Ideal) x g w = flat (e := .bf16) (qTok (n := 1840) (by decide) x g w) := by
  refine funext fun i => ?_
  idx_vars i
  unfold flat qTok
  pointwise [val_main_cst_4, val_main_v59, val_main_v60, val_main_v143, val_main_v144]
  rw [q_at]

set_option maxHeartbeats 1600000 in
/-- A group's keys and values. -/
theorem kv_at (b : Fin 16) (s : Fin 2048) (h : Fin 2) (j : Fin 768) : val_main_v132 (F := Ideal) x g w (ix4 b s h j)
    = kvCol (projCol x g w b s) s (768 * h + j) := by
  have hd1 : (768 * (h : ℕ) + j) % 384 = (j : ℕ) % 384 := by omega
  have hd2 : (768 * (h : ℕ) + j) % 768 / 384 = (j : ℕ) / 384 := by omega
  have hd3 : (768 * (h : ℕ) + j) / 768 = h := by omega
  simp only [kvCol, hd1, hd2, hd3]
  pointwise [val_main_v132, val_main_v131, val_main_cst_9]
  simp only [ks_at, kw_at, vs_at, vw_at]
  with_reducible repeat' refine dite_eq_iff'.2 ⟨fun _ => ?_, fun _ => ?_⟩
  all_goals
    symm
    with_reducible repeat' refine ite_eq_iff'.2 ⟨fun _ => ?_, fun _ => ?_⟩
  all_goals first
    | omega
    | rfl
    | exact congrArg (projCol x g w b s) (by omega)
    | exact congrArg₂ (fun q i => ropeAt q s i) (funext fun i => congrArg (projCol x g w b s) (by omega)) (Fin.ext (by first | omega | (dsimp only <;> omega)))

/-- The keys' and values' array. -/
theorem v146_eq : val_main_v146 (F := Ideal) x g w = flat (e := .bf16) (kvTok x g w) := by
  refine funext fun i => ?_
  idx_vars i
  unfold flat kvTok
  pointwise [val_main_v145, val_main_v146]
  refine (kv_at x g w _ _ _ _).trans (congrArg (kvCol _ _) ?_)
  dsimp only
  omega

/-- The compressed branch's keys' array. -/
theorem v147_eq : val_main_v147 (F := Ideal) x g w = flat (e := .f32) (kcTok x g w) := by
  refine funext fun i => ?_
  idx_vars i
  unfold flat kcTok
  pointwise [val_main_v18, val_main_v147]
  rw [proj_at]

/-- The compressed branch's values' array. -/
theorem v148_eq : val_main_v148 (F := Ideal) x g w = flat (e := .f32) (vcTok x g w) := by
  refine funext fun i => ?_
  idx_vars i
  unfold flat vcTok
  pointwise [val_main_v19, val_main_v148]
  rw [proj_at]

/-- A gate. -/
theorem gate_at (b : Fin 16) (s : Fin 2048) (l : Fin 128) : val_main_v139 (F := Ideal) x g w (ix3 b s l) = sigmoid (projCol x g w b s (1792 + l)) := by
  have e : projCol x g w b s (1792 + l) = val_main_v133 (F := Ideal) x g w (ix3 b s l) := by
    pointwise [val_main_v24, val_main_c, val_main_call0_v0, val_main_v133]
    split
    · exact (proj_col x g w b s ⟨1792 + l, by omega⟩ _ rfl).symm
    · exact (col_ge _ _ (by omega)).trans zero_cell.symm
  rw [e]
  unfold sigmoid
  pointwise [val_main_v134, val_main_v135, val_main_cst_10, val_main_v136, val_main_v137, val_main_cst_11, val_main_v138, val_main_v139]
  rfl

/-- The gates' array. -/
theorem v149_eq : val_main_v149 (F := Ideal) x g w = flat (e := .f32) (gateTok x g w) := by
  refine funext fun i => ?_
  idx_vars i
  unfold flat gateTok
  pointwise [val_main_v140, val_main_v141, val_main_v142, val_main_v149]
  repeat' split
  all_goals first
    | omega
    | exact (gate_at x g w _ _ _).trans (congrArg (fun k => sigmoid (projCol x g w _ _ k)) (by first | omega | (dsimp only <;> omega)))

end Cert.NsaInRefIdeal.Tok

end
-- ==== Proof.CompressLayer.lean ====
/- The compression of the native sparse mixer's blocks, block by block: 32 tokens from every 16th on,
   each with its place's code added, through two layers to one key and one value for either group of heads. -/
module

public import proofs.«01_k».proof.Proof.NsaLayer

@[expose] public section

set_option maxRecDepth 16384

noncomputable section

namespace Cert.Cmp

open Idealize.ShloMosaic
open Cert.Mixer
open Cert.Ffn (gelu)

section Sums

/-- A sum over two halves of which one has weights zero. -/
theorem half_sum {n : ℕ} (a w : Fin (n + n) → EReal) (g : Fin 2) (v : Fin n → EReal)
    (h : ∀ k : Fin (n + n), w k = if (k : ℕ) / n = g then v ⟨(k : ℕ) % n, Nat.mod_lt _ (by have := k.isLt; omega)⟩ else 0) :
    ∑ k, a k * w k = ∑ d : Fin n, a ⟨n * g + d, by have := d.isLt; rcases g with ⟨_ | _ | g, hg⟩ <;> simp <;> omega⟩ * v d := by
  rw [Fin.sum_univ_add]
  have hlow : ∀ d : Fin n, ((Fin.castAdd n d : Fin (n + n)) : ℕ) / n = 0 := fun d => Nat.div_eq_of_lt d.isLt
  have hhigh : ∀ d : Fin n, ((Fin.natAdd n d : Fin (n + n)) : ℕ) / n = 1 := fun d => by
    show (n + (d : ℕ)) / n = 1
    rw [Nat.add_div_left _ (by have := d.isLt; omega), Nat.div_eq_of_lt d.isLt]
  match g with
  | 0 =>
    have z : ∑ d : Fin n, a (Fin.natAdd n d) * w (Fin.natAdd n d) = 0 :=
      Finset.sum_eq_zero fun d _ => by rw [h, if_neg (by rw [hhigh]; decide), mul_zero]
    rw [z, add_zero]
    refine Finset.sum_congr rfl fun d _ => ?_
    rw [h, if_pos (show _ = ((0 : Fin 2) : ℕ) from hlow d)]
    refine congrArg₂ (· * ·) (congrArg a (Fin.ext ?_)) (congrArg v (Fin.ext (Nat.mod_eq_of_lt d.isLt)))
    show (d : ℕ) = n * 0 + d
    omega
  | 1 =>
    have z : ∑ d : Fin n, a (Fin.castAdd n d) * w (Fin.castAdd n d) = 0 :=
      Finset.sum_eq_zero fun d _ => by rw [h, if_neg (by rw [hlow]; decide), mul_zero]
    rw [z, zero_add]
    refine Finset.sum_congr rfl fun d _ => ?_
    rw [h, if_pos (show _ = ((1 : Fin 2) : ℕ) from hhigh d)]
    refine congrArg₂ (· * ·) (congrArg a (Fin.ext ?_)) (congrArg v (Fin.ext ?_))
    · show n + (d : ℕ) = n * 1 + d
      omega
    · show (n + (d : ℕ)) % n = d
      rw [Nat.add_mod_left, Nat.mod_eq_of_lt d.isLt]

/-- A sum in a binary tree of depth `k`, the terms in order. -/
def tree {α : Type} (add : α → α → α) : ℕ → (ℕ → α) → α
  | 0, f => f 0
  | k + 1, f => add (tree add k f) (tree add k fun i => f (2 ^ k + i))

theorem tree_at {n N : ℕ} (k : ℕ) (f : ℕ → FVec Ideal (⟨2, ![n, N]⟩ : Shape) .f32) (i : (⟨2, ![n, N]⟩ : Shape).Idx) :
    tree addf k f i = ∑ j ∈ Finset.range (2 ^ k), f j i := by
  induction k generalizing f with
  | zero => simp [tree]
  | succ k ih =>
    have e : (2 : ℕ) ^ (k + 1) = 2 ^ k + 2 ^ k := by omega
    rw [e, Finset.sum_range_add]
    exact congrArg₂ (· + ·) (ih f) (ih _)

/-- The order in which the kernel adds the 32 places of a block: every place of its first half beside the same of the second. -/
theorem places_sum (F : ℕ → EReal) :
    ∑ j ∈ Finset.range (2 ^ 5), F (16 * (j % 2) + j / 2) = ∑ l ∈ Finset.range 32, F l := by
  refine Finset.sum_bij' (fun j _ => 16 * (j % 2) + j / 2) (fun l _ => 2 * (l % 16) + l / 16) ?_ ?_ ?_ ?_ fun _ _ => rfl
  all_goals
    intro a ha
    simp only [Finset.mem_range] at ha ⊢
    omega

/-- 32 sums of 64 terms each as one. -/
theorem sum_places (F : ℕ → ℕ → EReal) :
    ∑ l ∈ Finset.range 32, ∑ d : Fin 64, F l d = ∑ k : Fin 2048, F ((k : ℕ) / 64) ((k : ℕ) % 64) := by
  rw [← Fin.sum_univ_eq_sum_range (fun l => ∑ d : Fin 64, F l d) 32, ← Fintype.sum_prod_type']
  refine (Fintype.sum_equiv finProdFinEquiv (fun p : Fin 32 × Fin 64 => F p.1 p.2) (fun k : Fin (32 * 64) => F ((k : ℕ) / 64) ((k : ℕ) % 64)) ?_)
  rintro ⟨l, d⟩
  have h1 : ((finProdFinEquiv (l, d) : Fin (32 * 64)) : ℕ) = d + 64 * l := rfl
  dsimp only
  rw [h1, show ((d : ℕ) + 64 * l) / 64 = l by omega, show ((d : ℕ) + 64 * l) % 64 = d by omega]

end Sums

section Blocks

variable (x : FVec Ideal (⟨3, ![16, 2048, 128]⟩ : Shape) .f32) (pe : FVec Ideal (⟨2, ![32, 64]⟩ : Shape) .f32)
  (w1 : FVec Ideal (⟨2, ![2048, 256]⟩ : Shape) .f32) (w2 : FVec Ideal (⟨2, ![256, 64]⟩ : Shape) .f32)

/-- Column `f` of the first layer for block `n`: its tokens are 16 n to 16 n + 31, the last block's going on at the sequence's first. -/
def hidTok (b : Fin 16) (n : Fin 128) (g : Fin 2) (f : Fin 256) : EReal :=
  ∑ k : Fin 2048, (x (ix3 b ⟨(16 * (n : ℕ) + (k : ℕ) / 64) % 2048, by omega⟩ ⟨64 * (g : ℕ) + (k : ℕ) % 64, by omega⟩)
    + pe (ix2 ⟨(k : ℕ) / 64, by omega⟩ ⟨(k : ℕ) % 64, by omega⟩)) * w1 (ix2 k f)

/-- Column `j` of block `n`, compressed. -/
def cmpTok (b : Fin 16) (n : Fin 128) (g : Fin 2) (j : Fin 64) : EReal :=
  ∑ f : Fin 256, gelu (hidTok x pe w1 b n g f) * w2 (ix2 f j)

end Blocks

variable (k v : FVec Ideal (⟨3, ![16, 2048, 128]⟩ : Shape) .f32)
  (pk : FVec Ideal (⟨2, ![32, 64]⟩ : Shape) .f32) (w1k : FVec Ideal (⟨2, ![2048, 256]⟩ : Shape) .f32) (w2k : FVec Ideal (⟨2, ![256, 64]⟩ : Shape) .f32)
  (pv : FVec Ideal (⟨2, ![32, 64]⟩ : Shape) .f32) (w1v : FVec Ideal (⟨2, ![2048, 256]⟩ : Shape) .f32) (w2v : FVec Ideal (⟨2, ![256, 64]⟩ : Shape) .f32)

/-- The result's column `d`: the two groups' keys, turned by the position of the block's last token, each twice, then their values, each twice. -/
def blockTok (b : Fin 16) (n : Fin 128) (d : Fin 512) : EReal :=
  if (d : ℕ) < 256 then ropeAt (cmpTok k pk w1k w2k b n ⟨(d : ℕ) / 128 % 2, by omega⟩) (16 * n + 31) ⟨(d : ℕ) % 64, by omega⟩
  else cmpTok v pv w1v w2v b n ⟨(d : ℕ) / 128 % 2, by omega⟩ ⟨(d : ℕ) % 64, by omega⟩

/-- All of them. -/
def blocks : FVec Ideal (⟨3, ![16, 128, 512]⟩ : Shape) .bf16 := fun i => blockTok k v pk w1k w2k pv w1v w2v (i 0) (i 1) (i 2)

end Cert.Cmp

end
-- ==== Proof.CompressWindows.lean ====
/- What the compression kernel's windows hold: a sequence's tokens, the codes, the weights set out for both groups, the rotation's tables. -/
module

public import proofs.«01_k».proof.Proof.Gen.CompressIdeal.Value
public import proofs.«01_k».proof.Proof.CompressLayer
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.CompressIdeal.Tok

open Cert.CompressIdeal Cert.CompressIdeal.Gen Idealize.ShloMosaic Idealize.ShloMosaic.TcCoe Idealize.SL.Sem
open Idealize.ShloMosaic.Pipeline (Dat)
open Cert.Mixer Cert.Cmp

variable (m : (ℓ : Loc nD τ sig) → Buf (Elt Ideal) ℓ)

/-- Every window's block at every grid point. -/
theorem idx : ∀ t : Fin cfg0.N, win0_0.index t = ![t.val, 0, 0] ∧ win0_1.index t = ![t.val, 0, 0] ∧ win0_2.index t = ![0, 0, 0]
    ∧ win0_3.index t = ![0, 0, 0, 0] ∧ win0_4.index t = ![0, 0, 0] ∧ win0_5.index t = ![0, 0] ∧ win0_6.index t = ![0, 0]
    ∧ win0_7.index t = ![t.val, 0, 0] ∧ t.val < 16 :=
  (by decide +kernel : ∀ t : Fin grid0.N, _)

/-- The sequence of block `t`. -/
def seq (t : Fin cfg0.N) : Fin 16 := ⟨t.val, (idx t).2.2.2.2.2.2.2.2⟩

abbrev Ka (c : Dev nD) : FVec Ideal S16x2048x128 .f32 := m ((c : Thread nD τ).loc main_arg0)
abbrev Va (c : Dev nD) : FVec Ideal S16x2048x128 .f32 := m ((c : Thread nD τ).loc main_arg1)
abbrev PKa (c : Dev nD) : FVec Ideal S32x64 .f32 := m ((c : Thread nD τ).loc main_arg2)
abbrev W1Ka (c : Dev nD) : FVec Ideal S2048x256 .f32 := m ((c : Thread nD τ).loc main_arg3)
abbrev W2Ka (c : Dev nD) : FVec Ideal S256x64 .f32 := m ((c : Thread nD τ).loc main_arg4)
abbrev PVa (c : Dev nD) : FVec Ideal S32x64 .f32 := m ((c : Thread nD τ).loc main_arg5)
abbrev W1Va (c : Dev nD) : FVec Ideal S2048x256 .f32 := m ((c : Thread nD τ).loc main_arg6)
abbrev W2Va (c : Dev nD) : FVec Ideal S256x64 .f32 := m ((c : Thread nD τ).loc main_arg7)

theorem k_at (c : Dev nD) (t : Fin cfg0.N) (s : Fin 2048) (k : Fin 128) :
    (show FVec Ideal S1x2048x128 .f32 from iblk m c 0 t) (ix3 0 s k) = Ka m c (ix3 (seq t) s k) := by
  blk_simp [iblk, idx t]
  rw [V_main_arg0]
  exact congrArg (Ka m c) (by blk_ext [idx t, seq])

theorem v_at (c : Dev nD) (t : Fin cfg0.N) (s : Fin 2048) (k : Fin 128) :
    (show FVec Ideal S1x2048x128 .f32 from iblk m c 1 t) (ix3 0 s k) = Va m c (ix3 (seq t) s k) := by
  blk_simp [iblk, idx t]
  rw [V_main_arg1]
  exact congrArg (Va m c) (by blk_ext [idx t, seq])

/-- A code's columns twice. -/
def tileCode (w : FVec Ideal S32x64 .f32) : FVec Ideal S32x128 .f32 :=
  shapeCast S32x128 (broadcastInDim S1x32x2x64 ![0, 1, 2, 3] bcast_S1x32x1x64_S1x32x2x64_0_1_2_3
    (shapeCast S1x32x1x64 w shapeCasts_S32x64_S1x32x1x64)) shapeCasts_S1x32x2x64_S32x128
/-- The keys' and the values' codes one after the other. -/
def bothCodes (a b : FVec Ideal S32x128 .f32) : FVec Ideal S2x32x128 .f32 :=
  concatenate S2x32x128 0 [⟨S1x32x128, broadcastInDim S1x32x128 ![1, 2] bcast_S32x128_S1x32x128_1_2 a⟩,
    ⟨S1x32x128, broadcastInDim S1x32x128 ![1, 2] bcast_S32x128_S1x32x128_1_2 b⟩] concatenates_S1x32x128_S1x32x128_S2x32x128_d0

theorem tileCode_at (w : FVec Ideal S32x64 .f32) (l : Fin 32) (k : Fin 128) : tileCode w (ix2 l k) = w (ix2 l ⟨(k : ℕ) % 64, by omega⟩) := by
  pointwise [tileCode]

theorem bothCodes_at (a b : FVec Ideal S32x128 .f32) (v : Fin 2) (l : Fin 32) (k : Fin 128) :
    bothCodes a b (ix3 v l k) = if (v : ℕ) = 0 then a (ix2 l k) else b (ix2 l k) := by
  pointwise [bothCodes]
  by_cases hv : (v : ℕ) = 0
  · rw [dif_pos (show (v : ℕ) < 1 by omega), if_pos hv]
  · rw [dif_neg (show ¬ (v : ℕ) < 1 by omega), if_neg hv]

/-- The codes as the kernel finds them. -/
theorem codes (c : Dev nD) : V m c main_v35 = bothCodes (tileCode (PKa m c)) (tileCode (PVa m c)) := by
  show StableHlo.after hostOps0 (fun b => m (c, b)) (Proc.devRef .tc main_v35) = _
  after_reads_simp
  rfl

/-- The codes, for either group the same. -/
theorem pe_at (c : Dev nD) (t : Fin cfg0.N) (v : Fin 2) (l : Fin 32) (k : Fin 128) :
    (show FVec Ideal S2x32x128 .f32 from iblk m c 2 t) (ix3 v l k) = (if (v : ℕ) = 0 then PKa m c else PVa m c) (ix2 l ⟨(k : ℕ) % 64, by omega⟩) := by
  blk_simp [iblk, idx t]
  rw [codes]
  have hy : (((View.whole main_v35).slice (win0_2.rect t)).emb (ix3 v l k) : S2x32x128.Idx) = ix3 v l k := by
    blk_ext [idx t]
  refine (congrArg (bothCodes (tileCode (PKa m c)) (tileCode (PVa m c))) hy).trans ((bothCodes_at _ _ v l k).trans ?_)
  by_cases hv : (v : ℕ) = 0
  · rw [if_pos hv, if_pos hv]
    exact tileCode_at _ l k
  · rw [if_neg hv, if_neg hv]
    exact tileCode_at _ l k

/-- The first layer's weights, place by place. -/
def placed (w : FVec Ideal S2048x256 .f32) : FVec Ideal S32x64x256 .f32 := shapeCast S32x64x256 w shapeCasts_S2048x256_S32x64x256
/-- Zeros. -/
def noWeights : FVec Ideal S32x64x256 .f32 := broadcastInDim S32x64x256 ![] bcast_S_S32x64x256 (constant S_ .f32 0x00000000#32)
/-- A place's matrix for either group in its own corner, zeros elsewhere. -/
def corners (p : FVec Ideal S32x64x256 .f32) : FVec Ideal S32x128x512 .f32 :=
  concatenate S32x128x512 1
    [⟨S32x64x512, concatenate S32x64x512 2 [⟨S32x64x256, p⟩, ⟨S32x64x256, noWeights⟩] concatenates_S32x64x256_S32x64x256_S32x64x512_d2⟩,
      ⟨S32x64x512, concatenate S32x64x512 2 [⟨S32x64x256, noWeights⟩, ⟨S32x64x256, p⟩] concatenates_S32x64x256_S32x64x256_S32x64x512_d2⟩]
    concatenates_S32x64x512_S32x64x512_S32x128x512_d1
/-- The keys' and the values' one after the other. -/
def bothFirst (a b : FVec Ideal S32x128x512 .f32) : FVec Ideal S2x32x128x512 .bf16 :=
  truncf .bf16 (concatenate S2x32x128x512 0 [⟨S1x32x128x512, broadcastInDim S1x32x128x512 ![1, 2, 3] bcast_S32x128x512_S1x32x128x512_1_2_3 a⟩,
    ⟨S1x32x128x512, broadcastInDim S1x32x128x512 ![1, 2, 3] bcast_S32x128x512_S1x32x128x512_1_2_3 b⟩]
    concatenates_S1x32x128x512_S1x32x128x512_S2x32x128x512_d0) bitsLt_bf16_f32

theorem placed_at (w : FVec Ideal S2048x256 .f32) (l : Fin 32) (k : Fin 64) (f : Fin 256) :
    placed w (ix3 l k f) = w (ix2 ⟨64 * (l : ℕ) + k, by omega⟩ f) := by
  pointwise [placed]
  exact congrArg w (congrArg (fun z => ix2 z f) (Fin.ext (by dsimp only; omega)))

theorem corners_at (w : FVec Ideal S2048x256 .f32) (l : Fin 32) (k : Fin 128) (F : Fin 512) : corners (placed w) (ix3 l k F)
    = if (k : ℕ) / 64 = (F : ℕ) / 256 then w (ix2 ⟨64 * (l : ℕ) + (k : ℕ) % 64, by omega⟩ ⟨(F : ℕ) % 256, by omega⟩) else 0 := by
  pointwise [corners, noWeights, placed_at]
  by_cases hk : (k : ℕ) < 64 <;> by_cases hF : (F : ℕ) < 256
  · rw [dif_pos hk, dif_pos hF, if_pos (show (k : ℕ) / 64 = (F : ℕ) / 256 by omega)]
    exact congrArg w (congrArg₂ ix2 (Fin.ext (by dsimp only; omega)) (Fin.ext (by dsimp only; omega)))
  · rw [dif_pos hk, dif_neg hF, if_neg (show ¬ (k : ℕ) / 64 = (F : ℕ) / 256 by omega)]
  · rw [dif_neg hk, dif_pos hF, if_neg (show ¬ (k : ℕ) / 64 = (F : ℕ) / 256 by omega)]
  · rw [dif_neg hk, dif_neg hF, if_pos (show (k : ℕ) / 64 = (F : ℕ) / 256 by omega)]
    exact congrArg w (congrArg₂ ix2 (Fin.ext (by dsimp only; omega)) (Fin.ext (by dsimp only; omega)))

theorem bothFirst_at (a b : FVec Ideal S32x128x512 .f32) (v : Fin 2) (l : Fin 32) (k : Fin 128) (F : Fin 512) :
    bothFirst a b (ix4 v l k F) = if (v : ℕ) = 0 then a (ix3 l k F) else b (ix3 l k F) := by
  pointwise [bothFirst]
  by_cases hv : (v : ℕ) = 0
  · rw [dif_pos (show (v : ℕ) < 1 by omega), if_pos hv]
  · rw [dif_neg (show ¬ (v : ℕ) < 1 by omega), if_neg hv]

/-- The first layer's weights as the kernel finds them. -/
theorem first_weights (c : Dev nD) : V m c main_v49 = bothFirst (corners (placed (W1Ka m c))) (corners (placed (W1Va m c))) := by
  show StableHlo.after hostOps0 (fun b => m (c, b)) (Proc.devRef .tc main_v49) = _
  after_reads_simp
  rfl

/-- The first layer's weights: a group's columns have zeros in the other group's rows. -/
theorem w1_at (c : Dev nD) (t : Fin cfg0.N) (v : Fin 2) (l : Fin 32) (k : Fin 128) (F : Fin 512) :
    (show FVec Ideal S2x32x128x512 .bf16 from iblk m c 3 t) (ix4 v l k F) = if (k : ℕ) / 64 = (F : ℕ) / 256 then
      (if (v : ℕ) = 0 then W1Ka m c else W1Va m c) (ix2 ⟨64 * (l : ℕ) + (k : ℕ) % 64, by omega⟩ ⟨(F : ℕ) % 256, by omega⟩) else 0 := by
  blk_simp [iblk, idx t]
  rw [first_weights]
  have hy : (((View.whole main_v49).slice (win0_3.rect t)).emb (ix4 v l k F) : S2x32x128x512.Idx) = ix4 v l k F := by
    blk_ext [idx t]
  refine (congrArg (bothFirst (corners (placed (W1Ka m c))) (corners (placed (W1Va m c)))) hy).trans ((bothFirst_at _ _ v l k F).trans ?_)
  by_cases hv : (v : ℕ) = 0
  · rw [if_pos hv, if_pos hv]
    exact corners_at _ l k F
  · rw [if_neg hv, if_neg hv]
    exact corners_at _ l k F

/-- A matrix's columns twice. -/
def tile (w : FVec Ideal S256x64 .f32) : FVec Ideal S256x128 .f32 :=
  shapeCast S256x128 (broadcastInDim S1x256x2x64 ![0, 1, 2, 3] bcast_S1x256x1x64_S1x256x2x64_0_1_2_3
    (shapeCast S1x256x1x64 w shapeCasts_S256x64_S1x256x1x64)) shapeCasts_S1x256x2x64_S256x128
/-- Zeros. -/
def zeros : FVec Ideal S256x128 .f32 := broadcastInDim S256x128 ![] bcast_S_S256x128 (constant S_ .f32 0x00000000#32)
/-- A matrix for either group in its own corner, zeros elsewhere. -/
def corner (p : FVec Ideal S256x128 .f32) : FVec Ideal S512x256 .f32 :=
  concatenate S512x256 0 [⟨S256x256, concatenate S256x256 1 [⟨S256x128, p⟩, ⟨S256x128, zeros⟩] concatenates_S256x128_S256x128_S256x256_d1⟩,
    ⟨S256x256, concatenate S256x256 1 [⟨S256x128, zeros⟩, ⟨S256x128, p⟩] concatenates_S256x128_S256x128_S256x256_d1⟩] concatenates_S256x256_S256x256_S512x256_d0
/-- The keys' and the values' one after the other. -/
def both (a b : FVec Ideal S512x256 .f32) : FVec Ideal S2x512x256 .bf16 :=
  truncf .bf16 (concatenate S2x512x256 0 [⟨S1x512x256, broadcastInDim S1x512x256 ![1, 2] bcast_S512x256_S1x512x256_1_2 a⟩,
    ⟨S1x512x256, broadcastInDim S1x512x256 ![1, 2] bcast_S512x256_S1x512x256_1_2 b⟩] concatenates_S1x512x256_S1x512x256_S2x512x256_d0) bitsLt_bf16_f32

theorem tile_at (w : FVec Ideal S256x64 .f32) (f : Fin 256) (j : Fin 128) : tile w (ix2 f j) = w (ix2 f ⟨(j : ℕ) % 64, by omega⟩) := by
  pointwise [tile]

theorem corner_at (w : FVec Ideal S256x64 .f32) (F : Fin 512) (d : Fin 256) : corner (tile w) (ix2 F d)
    = if (F : ℕ) / 256 = (d : ℕ) / 128 then w (ix2 ⟨(F : ℕ) % 256, by omega⟩ ⟨(d : ℕ) % 64, by omega⟩) else 0 := by
  pointwise [corner, zeros, tile_at]
  by_cases hF : (F : ℕ) < 256 <;> by_cases hd : (d : ℕ) < 128
  · rw [dif_pos hF, dif_pos hd, if_pos (show (F : ℕ) / 256 = (d : ℕ) / 128 by omega)]
    exact congrArg w (congrArg₂ ix2 (Fin.ext (by dsimp only; omega)) (Fin.ext (by dsimp only)))
  · rw [dif_pos hF, dif_neg hd, if_neg (show ¬ (F : ℕ) / 256 = (d : ℕ) / 128 by omega)]
  · rw [dif_neg hF, dif_pos hd, if_neg (show ¬ (F : ℕ) / 256 = (d : ℕ) / 128 by omega)]
  · rw [dif_neg hF, dif_neg hd, if_pos (show (F : ℕ) / 256 = (d : ℕ) / 128 by omega)]
    exact congrArg w (congrArg₂ ix2 (Fin.ext (by dsimp only; omega)) (Fin.ext (by dsimp only; omega)))

theorem both_at (a b : FVec Ideal S512x256 .f32) (v : Fin 2) (F : Fin 512) (d : Fin 256) :
    both a b (ix3 v F d) = if (v : ℕ) = 0 then a (ix2 F d) else b (ix2 F d) := by
  pointwise [both]
  by_cases hv : (v : ℕ) = 0
  · rw [dif_pos (show (v : ℕ) < 1 by omega), if_pos hv]
  · rw [dif_neg (show ¬ (v : ℕ) < 1 by omega), if_neg hv]

/-- The second layer's weights as the kernel finds them. -/
theorem second_weights (c : Dev nD) : V m c main_v67 = both (corner (tile (W2Ka m c))) (corner (tile (W2Va m c))) := by
  show StableHlo.after hostOps0 (fun b => m (c, b)) (Proc.devRef .tc main_v67) = _
  after_reads_simp
  rfl

/-- The second layer's weights, each group's columns twice. -/
theorem w2_at (c : Dev nD) (t : Fin cfg0.N) (v : Fin 2) (F : Fin 512) (d : Fin 256) :
    (show FVec Ideal S2x512x256 .bf16 from iblk m c 4 t) (ix3 v F d) = if (F : ℕ) / 256 = (d : ℕ) / 128 then
      (if (v : ℕ) = 0 then W2Ka m c else W2Va m c) (ix2 ⟨(F : ℕ) % 256, by omega⟩ ⟨(d : ℕ) % 64, by omega⟩) else 0 := by
  blk_simp [iblk, idx t]
  rw [second_weights]
  have hy : (((View.whole main_v67).slice (win0_4.rect t)).emb (ix3 v F d) : S2x512x256.Idx) = ix3 v F d := by
    blk_ext [idx t]
  refine (congrArg (both (corner (tile (W2Ka m c))) (corner (tile (W2Va m c)))) hy).trans ((both_at _ _ v F d).trans ?_)
  by_cases hv : (v : ℕ) = 0
  · rw [if_pos hv, if_pos hv]
    exact corner_at _ F d
  · rw [if_neg hv, if_neg hv]
    exact corner_at _ F d

/-- A block's position as a 32-bit number. -/
theorem pos_eq (n : Fin 128) : IntOp.addi (IntOp.muli (BitVec.ofNat 32 n) 16#32) 31#32 = BitVec.ofNat 32 (16 * n + 31) := by
  revert n
  decide +kernel

theorem cos_at (c : Dev nD) (t : Fin cfg0.N) (r l : Fin 128) :
    (show FVec Ideal S128x128 .f32 from iblk m c 5 t) (ix2 r l) = cosTab (16 * r + 31) l := by
  blk_simp [iblk, idx t]
  dsimp only [V, hostOps0, List.flatten_cons, List.flatten_nil, List.append_nil, List.cons_append, List.nil_append]
  entry_read
  have hy : (((View.whole main_v21).slice (win0_5.rect t)).emb (ix2 r l) : S128x128.Idx) = ix2 r l := by
    blk_ext [idx t]
  generalize (((View.whole main_v21).slice (win0_5.rect t)).emb (ix2 r l) : S128x128.Idx) = y at hy ⊢
  subst hy
  pointwise
  rw [pos_eq]
  rfl

theorem sin_at (c : Dev nD) (t : Fin cfg0.N) (r l : Fin 128) :
    (show FVec Ideal S128x128 .f32 from iblk m c 6 t) (ix2 r l) = sinTab (16 * r + 31) l := by
  blk_simp [iblk, idx t]
  dsimp only [V, hostOps0, List.flatten_cons, List.flatten_nil, List.append_nil, List.cons_append, List.nil_append]
  entry_read
  have hy : (((View.whole main_v26).slice (win0_6.rect t)).emb (ix2 r l) : S128x128.Idx) = ix2 r l := by
    blk_ext [idx t]
  generalize (((View.whole main_v26).slice (win0_6.rect t)).emb (ix2 r l) : S128x128.Idx) = y at hy ⊢
  subst hy
  pointwise
  rw [pos_eq]
  rfl

end Cert.CompressIdeal.Tok

end
-- ==== Proof.CompressResult.lean ====
/- The compression kernel: one grid point's 128 blocks of tokens, and the result array after the run. -/
module

public import proofs.«01_k».proof.Proof.CompressWindows

@[expose] public section

set_option maxRecDepth 16384

noncomputable section

namespace Cert.CompressIdeal.Tok

open Cert.CompressIdeal Cert.CompressIdeal.Gen Idealize.ShloMosaic Idealize.ShloMosaic.TcCoe Idealize.SL.Sem
open Idealize.ShloMosaic.Pipeline (Dat)
open Cert.Mixer Cert.Cmp
open Cert.Ffn (gelu)

variable (m : (ℓ : Loc nD τ sig) → Buf (Elt Ideal) ℓ)

/-- Every 16th token from `l` on. -/
def rowsOf (X : FVec Ideal S1x2048x128 .f32) (l : ℕ) : FVec Ideal S1x128x128 .f32 := fun y =>
  X (ix3 0 ⟨(l + 16 * (y 1 : ℕ)) % 2048, by omega⟩ (y 2))
/-- The code of place `l`. -/
def codeOf (PE : FVec Ideal S2x32x128 .f32) (v : Fin 2) (l : ℕ) : FVec Ideal S1x1x128 .f32 := fun y => PE (ix3 v ⟨l % 32, by omega⟩ (y 2))
/-- The first layer's weights of place `l`. -/
def weightsOf (W : FVec Ideal S2x32x128x512 .bf16) (v : Fin 2) (l : ℕ) : FVec Ideal S1x1x128x512 .bf16 := fun y =>
  W (ix4 v ⟨l % 32, by omega⟩ (y 2) (y 3))
/-- The second layer's weights. -/
def secondOf (W : FVec Ideal S2x512x256 .bf16) (v : Fin 2) : FVec Ideal S1x512x256 .bf16 := fun y => W (ix3 v (y 1) (y 2))

theorem rows_eq (X : FVec Ideal S1x2048x128 .f32) (mr : Memref sig .tc .vmem S1x2048x128 .f32) (h : mr.IsWhole) (l : ℕ)
    (inb) : View.readAt (Elt Ideal) mr.view ⟨![0, l, 0], ![1, 128, 128], ![1, 16, 1], inb⟩ (h.unread X) = rowsOf X l := by
  refine funext fun y => ?_
  rw [View.readAt_apply, h.read_unread]
  have hb := (LoadRect.idx (⟨![0, l, 0], ![1, 128, 128], ![1, 16, 1], inb⟩ : LoadRect S1x2048x128) y 1).isLt
  refine congrArg X (funext fun a => Fin.ext ?_)
  match a with
  | ⟨0, _⟩ => have : (y 0 : ℕ) < 1 := (y 0).isLt; show 0 + 1 * (y 0 : ℕ) = 0; omega
  | ⟨1, _⟩ => exact (Nat.mod_eq_of_lt hb).symm
  | ⟨2, _⟩ => show 0 + 1 * (y 2 : ℕ) = y 2; omega

theorem code_eq (PE : FVec Ideal S2x32x128 .f32) (v l : ℕ) (inb) :
    View.ld (Val := Elt Ideal) (e' := .f32) PE (Rect.unit (s := S2x32x128) ![v, l, 0] ![1, 1, 128] inb) = codeOf PE ⟨v % 2, by omega⟩ l := by
  refine funext fun y => ?_
  have h0 := (LoadRect.idx (Rect.unit (s := S2x32x128) ![v, l, 0] ![1, 1, 128] inb).toLoadRect y 0).isLt
  have h1 := (LoadRect.idx (Rect.unit (s := S2x32x128) ![v, l, 0] ![1, 1, 128] inb).toLoadRect y 1).isLt
  refine congrArg PE (funext fun a => Fin.ext ?_)
  have y0 : (y 0 : ℕ) < 1 := (y 0).isLt
  have y1 : (y 1 : ℕ) < 1 := (y 1).isLt
  replace h0 : v + 1 * (y 0 : ℕ) < 2 := h0
  replace h1 : l + 1 * (y 1 : ℕ) < 32 := h1
  match a with
  | ⟨0, _⟩ => show v + 1 * (y 0 : ℕ) = v % 2; omega
  | ⟨1, _⟩ => show l + 1 * (y 1 : ℕ) = l % 32; omega
  | ⟨2, _⟩ => show 0 + 1 * (y 2 : ℕ) = y 2; omega

theorem weights_eq (W : FVec Ideal S2x32x128x512 .bf16) (v l : ℕ) (inb) :
    View.ld (Val := Elt Ideal) (e' := .bf16) W (Rect.unit (s := S2x32x128x512) ![v, l, 0, 0] ![1, 1, 128, 512] inb) = weightsOf W ⟨v % 2, by omega⟩ l := by
  refine funext fun y => ?_
  have h0 := (LoadRect.idx (Rect.unit (s := S2x32x128x512) ![v, l, 0, 0] ![1, 1, 128, 512] inb).toLoadRect y 0).isLt
  have h1 := (LoadRect.idx (Rect.unit (s := S2x32x128x512) ![v, l, 0, 0] ![1, 1, 128, 512] inb).toLoadRect y 1).isLt
  refine congrArg W (funext fun a => Fin.ext ?_)
  have y0 : (y 0 : ℕ) < 1 := (y 0).isLt
  have y1 : (y 1 : ℕ) < 1 := (y 1).isLt
  replace h0 : v + 1 * (y 0 : ℕ) < 2 := h0
  replace h1 : l + 1 * (y 1 : ℕ) < 32 := h1
  match a with
  | ⟨0, _⟩ => show v + 1 * (y 0 : ℕ) = v % 2; omega
  | ⟨1, _⟩ => show l + 1 * (y 1 : ℕ) = l % 32; omega
  | ⟨2, _⟩ => show 0 + 1 * (y 2 : ℕ) = y 2; omega
  | ⟨3, _⟩ => show 0 + 1 * (y 3 : ℕ) = y 3; omega

theorem second_eq (W : FVec Ideal S2x512x256 .bf16) (v : ℕ) (inb) :
    View.ld (Val := Elt Ideal) (e' := .bf16) W (Rect.unit (s := S2x512x256) ![v, 0, 0] ![1, 512, 256] inb) = secondOf W ⟨v % 2, by omega⟩ := by
  refine funext fun y => ?_
  have h0 := (LoadRect.idx (Rect.unit (s := S2x512x256) ![v, 0, 0] ![1, 512, 256] inb).toLoadRect y 0).isLt
  refine congrArg W (funext fun a => Fin.ext ?_)
  have y0 : (y 0 : ℕ) < 1 := (y 0).isLt
  replace h0 : v + 1 * (y 0 : ℕ) < 2 := h0
  match a with
  | ⟨0, _⟩ => show v + 1 * (y 0 : ℕ) = v % 2; omega
  | ⟨1, _⟩ => show 0 + 1 * (y 1 : ℕ) = y 1; omega
  | ⟨2, _⟩ => show 0 + 1 * (y 2 : ℕ) = y 2; omega

/-- The tokens as a matrix. -/
def flatRows (x : FVec Ideal S1x128x128 .f32) : FVec Ideal S128x128 .f32 := shapeCast S128x128 x shapeCasts_S1x128x128_S128x128
/-- The tokens of the second half of a block: those of the first half of the next. -/
def nextRows (x : FVec Ideal S1x128x128 .f32) : FVec Ideal S128x128 .f32 := dynamicRotate 0 127#32 none (flatRows x) rotates_S128x128_d0
/-- One place's part of the first layer. -/
def place (x : FVec Ideal S128x128 .f32) (p : FVec Ideal S1x1x128 .f32) (w : FVec Ideal S1x1x128x512 .bf16) : FVec Ideal S128x512 .f32 :=
  matmul dot_S128x128_S128x512_S128x512_1_0_0_1_n_n none
    (truncf .bf16 (addf x (broadcastTo S128x128 (shapeCast S1x128 p shapeCasts_S1x1x128_S1x128) broadcasts_S1x128_S128x128)) bitsLt_bf16_f32)
    (shapeCast S128x512 w shapeCasts_S1x1x128x512_S128x512) (constant S128x512 .f32 0x00000000#32)
/-- The place that stands `i`-th in the kernel's sum. -/
def placeAt (x : ℕ → FVec Ideal S1x128x128 .f32) (p : ℕ → FVec Ideal S1x1x128 .f32) (w : ℕ → FVec Ideal S1x1x128x512 .bf16) (i : ℕ) : FVec Ideal S128x512 .f32 :=
  match i % 2 with
  | 0 => place (flatRows (x (i / 2))) (p (i / 2)) (w (i / 2))
  | _ => place (nextRows (x (i / 2))) (p (16 + i / 2)) (w (16 + i / 2))
/-- The first layer. -/
def hidden (x : ℕ → FVec Ideal S1x128x128 .f32) (p : ℕ → FVec Ideal S1x1x128 .f32) (w : ℕ → FVec Ideal S1x1x128x512 .bf16) : FVec Ideal S128x512 .f32 :=
  tree addf 5 (placeAt x p w)
/-- The activation and the second layer. -/
def second (h : FVec Ideal S128x512 .f32) (w : FVec Ideal S1x512x256 .bf16) : FVec Ideal S128x256 .f32 :=
  matmul dot_S128x512_S512x256_S128x256_1_0_0_1_n_n none
    (truncf .bf16 (mulf (mulf (broadcast S128x512 (Scalar.ofBits .f32 0x3F000000#32)) h)
      (addf (broadcast S128x512 (Scalar.ofBits .f32 0x3F800000#32)) (tanh (mulf (broadcast S128x512 (Scalar.ofBits .f32 0x3F4C422A#32))
        (addf h (mulf (broadcast S128x512 (Scalar.ofBits .f32 0x3D372713#32)) (mulf (mulf h h) h))))))) bitsLt_bf16_f32)
    (shapeCast S512x256 w shapeCasts_S1x512x256_S512x256) (constant S128x256 .f32 0x00000000#32)

theorem store_at {e : FTy} (v : FVec Ideal S128x128 e) (x : S1x128x128.Idx) : shapeCast S1x128x128 v shapeCasts_S128x128_S1x128x128 x = v (ix2 (x 1) (x 2)) := by
  idx_vars x
  pointwise

/-- A tile of turned keys, as the kernel stores it. -/
theorem key_tile (P : FVec Ideal S128x256 .f32) (C S : FVec Ideal S128x128 .f32) (r : Fin 128) (p : ℕ)
    (hc : ∀ l : Fin 128, C (ix2 r l) = cosTab p l) (hs : ∀ l : Fin 128, S (ix2 r l) = sinTab p l) (d : Fin 512) (hd : (d : ℕ) < 256)
    {off : ℕ} {h : S128x256.Slices ![0, off] S128x128} (x : S1x128x128.Idx) (h1 : (r : ℕ) = x 1) (h2 : (d : ℕ) = off + x 2) (h64 : off % 64 = 0) :
    shapeCast S1x128x128 (truncf .bf16 (ropeSlab (n := 128) iota_S128x128_d1_w32 broadcasts_S128x128_S128x128 rotates_S128x128_d1
        (extractStridedSlice S128x128 ![0, off] P h) (shapeCast S128x128 C shapeCasts_S128x128_S128x128)
        (shapeCast S128x128 S shapeCasts_S128x128_S128x128)) bitsLt_bf16_f32) shapeCasts_S128x128_S1x128x128 x
      = ropeAt (fun j => P (ix2 r ⟨0 + 64 * (d / 64) + j, by omega⟩)) p ⟨d % 64, by omega⟩ := by
  rw [shapeCast_self, shapeCast_self]
  exact (store_at _ x).trans (rope_cols P C S r p hc hs 0 d off (by omega) (ix2 (x 1) (x 2)) h1 h2 (Nat.zero_add _).symm h64)

/-- A tile of values, as the kernel stores it. -/
theorem value_tile (P : FVec Ideal S128x256 .f32) (r : Fin 128) (d : Fin 512) (hd : 256 ≤ (d : ℕ))
    {off : ℕ} {h : S128x256.Slices ![0, off] S128x128} (x : S1x128x128.Idx) (h1 : (r : ℕ) = x 1) (h2 : (d : ℕ) = 256 + off + x 2) :
    shapeCast S1x128x128 (truncf .bf16 (extractStridedSlice S128x128 ![0, off] P h) bitsLt_bf16_f32) shapeCasts_S128x128_S1x128x128 x
      = P (ix2 r ⟨d - 256, by omega⟩) := by
  refine (store_at _ x).trans ?_
  pointwise
  refine congrArg P (funext fun a => Fin.ext ?_)
  match a with
  | ⟨0, _⟩ => exact h1.symm
  | ⟨1, _⟩ => show off + (x 2 : ℕ) = d - 256; omega

set_option maxHeartbeats 4000000 in
/-- A point's block: the turned keys in the first 256 columns, the values in the others. -/
theorem block_at (c : Dev nD) (t : Fin cfg0.N) (X Y : FVec Ideal S1x2048x128 .f32) (PE : FVec Ideal S2x32x128 .f32) (W1 : FVec Ideal S2x32x128x512 .bf16)
    (W2 : FVec Ideal S2x512x256 .bf16) (C S : FVec Ideal S128x128 .f32) (r : Fin 128) (p : ℕ)
    (hc : ∀ l : Fin 128, C (ix2 r l) = cosTab p l) (hs : ∀ l : Fin 128, S (ix2 r l) = sinTab p l) (d : Fin 512) :
    out0_A_7 (F := Ideal) c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) X Y PE W1 W2 C S (ix3 0 r d)
      = if hd : (d : ℕ) < 256 then
          ropeAt (fun j => second (hidden (rowsOf X) (codeOf PE 0) (weightsOf W1 0)) (secondOf W2 0) (ix2 r ⟨0 + 64 * (d / 64) + j, by omega⟩)) p ⟨d % 64, by omega⟩
        else second (hidden (rowsOf Y) (codeOf PE 1) (weightsOf W1 1)) (secondOf W2 1) (ix2 r ⟨d - 256, by omega⟩) := by
  unfold out0_A_7
  frame_open
  frame_out
  simp only [rows_eq, code_eq, weights_eq, second_eq]
  canon_tiles x h
  · have hx : (x 2 : ℕ) < 128 := (x 2).isLt
    replace h2 : (d : ℕ) = 384 + (x 2 : ℕ) := h2
    rw [dif_neg (by omega)]
    refine Eq.trans ?_ (value_tile (second (hidden (rowsOf Y) (codeOf PE 1) (weightsOf W1 1)) (secondOf W2 1)) r d (by omega) (off := 128)
      (h := slices_S128x256_o0_128_S128x128) x h1 (by omega))
    rfl
  · have hx : (x 2 : ℕ) < 128 := (x 2).isLt
    replace h2 : (d : ℕ) = 256 + (x 2 : ℕ) := h2
    rw [dif_neg (by omega)]
    refine Eq.trans ?_ (value_tile (second (hidden (rowsOf Y) (codeOf PE 1) (weightsOf W1 1)) (secondOf W2 1)) r d (by omega) (off := 0)
      (h := slices_S128x256_o0_0_S128x128) x h1 (by omega))
    rfl
  · have hx : (x 2 : ℕ) < 128 := (x 2).isLt
    replace h2 : (d : ℕ) = 128 + (x 2 : ℕ) := h2
    rw [dif_pos (by omega)]
    refine Eq.trans ?_ (key_tile (second (hidden (rowsOf X) (codeOf PE 0) (weightsOf W1 0)) (secondOf W2 0)) C S r p hc hs d (by omega) (off := 128)
      (h := slices_S128x256_o0_128_S128x128) x h1 h2 (by decide))
    rfl
  · have hx : (x 2 : ℕ) < 128 := (x 2).isLt
    replace h2 : (d : ℕ) = 0 + (x 2 : ℕ) := h2.trans (Nat.zero_add _).symm
    rw [dif_pos (by omega)]
    refine Eq.trans ?_ (key_tile (second (hidden (rowsOf X) (codeOf PE 0) (weightsOf W1 0)) (secondOf W2 0)) C S r p hc hs d (by omega) (off := 0)
      (h := slices_S128x256_o0_0_S128x128) x h1 h2 (by decide))
    rfl

theorem flat_rows_at (x : FVec Ideal S1x128x128 .f32) (r k : Fin 128) : flatRows x (ix2 r k) = x (ix3 0 r k) := by
  pointwise [flatRows]

theorem next_rows_at (x : FVec Ideal S1x128x128 .f32) (r k : Fin 128) : nextRows x (ix2 r k) = x (ix3 0 ⟨((r : ℕ) + 1) % 128, by omega⟩ k) := by
  unfold nextRows
  rw [Pointwise.dynamicRotate_apply, Shape.Idx.norm_def]
  refine (congrArg (flatRows x) (funext fun b => Fin.ext ?_)).trans (flat_rows_at x ⟨((r : ℕ) + 1) % 128, by omega⟩ k)
  match b with
  | ⟨0, _⟩ =>
    show ((r : ℕ) + 128 - (127#32).toNat % 128) % 128 = ((r : ℕ) + 1) % 128
    have h : (127#32).toNat = 127 := rfl
    omega
  | ⟨1, _⟩ => rfl

theorem place_apply (x : FVec Ideal S128x128 .f32) (p : FVec Ideal S1x1x128 .f32) (w : FVec Ideal S1x1x128x512 .bf16) (r : Fin 128) (F : Fin 512) :
    place x p w (ix2 r F) = ∑ k : Fin 128, (x (ix2 r k) + p (ix3 0 0 k)) * w (ix4 0 0 k F) := by
  pointwise [place]

theorem second_at (h : FVec Ideal S128x512 .f32) (w : FVec Ideal S1x512x256 .bf16) (r : Fin 128) (c : Fin 256) :
    second h w (ix2 r c) = ∑ F : Fin 512, gelu (h (ix2 r F)) * w (ix3 0 F c) := by
  pointwise [second]
  rfl

section Over

variable (X : FVec Ideal S1x2048x128 .f32) (PE : FVec Ideal S2x32x128 .f32) (W1 : FVec Ideal S2x32x128x512 .bf16) (W2 : FVec Ideal S2x512x256 .bf16) (v : Fin 2)
  (x : FVec Ideal (⟨3, ![16, 2048, 128]⟩ : Shape) .f32) (pe : FVec Ideal (⟨2, ![32, 64]⟩ : Shape) .f32)
  (w1 : FVec Ideal (⟨2, ![2048, 256]⟩ : Shape) .f32) (w2 : FVec Ideal (⟨2, ![256, 64]⟩ : Shape) .f32) (b : Fin 16)

/-- One place's part, over the block's arrays. -/
def part (r : Fin 128) (F : Fin 512) (l : ℕ) : EReal :=
  ∑ k : Fin 128, (X (ix3 0 ⟨(16 * (r : ℕ) + l) % 2048, by omega⟩ k) + PE (ix3 v ⟨l % 32, by omega⟩ k)) * W1 (ix4 v ⟨l % 32, by omega⟩ k F)

theorem place_at (r : Fin 128) (F : Fin 512) (i : ℕ) :
    placeAt (rowsOf X) (codeOf PE v) (weightsOf W1 v) i (ix2 r F) = part X PE W1 v r F (16 * (i % 2) + i / 2) := by
  unfold part
  rcases Nat.mod_two_eq_zero_or_one i with h | h
  · have e : placeAt (rowsOf X) (codeOf PE v) (weightsOf W1 v) i
        = place (flatRows (rowsOf X (i / 2))) (codeOf PE v (i / 2)) (weightsOf W1 v (i / 2)) := by
      unfold placeAt
      rw [h]
      rfl
    rw [e]
    refine (place_apply _ _ _ r F).trans (Finset.sum_congr rfl fun k _ => ?_)
    rw [flat_rows_at]
    refine congrArg₂ (· * ·) (congrArg₂ (· + ·) (congrArg X ?_) (congrArg PE ?_)) (congrArg W1 ?_)
    · exact congrArg (fun z => ix3 0 z k) (Fin.ext (by show (i / 2 + 16 * (r : ℕ)) % 2048 = _; dsimp only; omega))
    · exact congrArg (fun z => ix3 v z k) (Fin.ext (by dsimp only; omega))
    · exact congrArg (fun z => ix4 v z k F) (Fin.ext (by dsimp only; omega))
  · have e : placeAt (rowsOf X) (codeOf PE v) (weightsOf W1 v) i
        = place (nextRows (rowsOf X (i / 2))) (codeOf PE v (16 + i / 2)) (weightsOf W1 v (16 + i / 2)) := by
      unfold placeAt
      rw [h]
      rfl
    rw [e]
    refine (place_apply _ _ _ r F).trans (Finset.sum_congr rfl fun k _ => ?_)
    rw [next_rows_at]
    refine congrArg₂ (· * ·) (congrArg₂ (· + ·) (congrArg X ?_) (congrArg PE ?_)) (congrArg W1 ?_)
    · exact congrArg (fun z => ix3 0 z k) (Fin.ext (by show (i / 2 + 16 * (((r : ℕ) + 1) % 128)) % 2048 = _; dsimp only; omega))
    · exact congrArg (fun z => ix3 v z k) (Fin.ext (by dsimp only; omega))
    · exact congrArg (fun z => ix4 v z k F) (Fin.ext (by dsimp only; omega))

/-- One entry's part of the first layer: token `l` of block `r`, entry `d` of the group of column `F`. -/
def entry (r : Fin 128) (F : Fin 512) (l d : ℕ) : EReal :=
  (x (ix3 b ⟨(16 * (r : ℕ) + l) % 2048, by omega⟩ ⟨(64 * ((F : ℕ) / 256) + d) % 128, by omega⟩)
    + pe (ix2 ⟨l % 32, by omega⟩ ⟨d % 64, by omega⟩)) * w1 (ix2 ⟨(64 * l + d) % 2048, by omega⟩ ⟨(F : ℕ) % 256, by omega⟩)

/-- The first layer over the arguments: of either group's columns only that group's tokens count. -/
theorem hidden_at (hx : ∀ s k, X (ix3 0 s k) = x (ix3 b s k)) (hp : ∀ l k, PE (ix3 v l k) = pe (ix2 l ⟨(k : ℕ) % 64, by omega⟩))
    (hw : ∀ l k F, W1 (ix4 v l k F) = if (k : ℕ) / 64 = (F : ℕ) / 256 then w1 (ix2 ⟨64 * (l : ℕ) + (k : ℕ) % 64, by omega⟩ ⟨(F : ℕ) % 256, by omega⟩) else 0)
    (r : Fin 128) (F : Fin 512) : hidden (rowsOf X) (codeOf PE v) (weightsOf W1 v) (ix2 r F)
      = hidTok x pe w1 b r ⟨(F : ℕ) / 256, by omega⟩ ⟨(F : ℕ) % 256, by omega⟩ := by
  unfold hidden
  rw [tree_at, Finset.sum_congr rfl fun i _ => place_at X PE W1 v r F i, places_sum (part X PE W1 v r F)]
  have e : ∀ l ∈ Finset.range 32, part X PE W1 v r F l = ∑ d : Fin 64, entry x pe w1 b r F l d := by
    intro l hl
    have hl32 := Finset.mem_range.mp hl
    refine (half_sum (n := 64) _ _ ⟨(F : ℕ) / 256, by omega⟩ (fun d => w1 (ix2 ⟨(64 * l + d) % 2048, by omega⟩ ⟨(F : ℕ) % 256, by omega⟩)) fun k => ?_).trans
      (Finset.sum_congr rfl fun d _ => ?_)
    · rw [hw]
      refine if_congr Iff.rfl (congrArg w1 (congrArg (fun z => ix2 z _) (Fin.ext ?_))) rfl
      dsimp only
      omega
    · rw [hx, hp]
      unfold entry
      refine congrArg (· * _) (congrArg₂ (· + ·) (congrArg x (congrArg (ix3 b _) (Fin.ext ?_))) (congrArg pe (congrArg (ix2 _) (Fin.ext ?_))))
      all_goals
        dsimp only
        omega
  rw [Finset.sum_congr rfl e, sum_places (entry x pe w1 b r F)]
  unfold hidTok entry
  refine Finset.sum_congr rfl fun k _ => ?_
  refine congrArg₂ (· * ·) (congrArg₂ (· + ·) (congrArg x (congrArg (ix3 b _) (Fin.ext ?_))) (congrArg pe (congrArg₂ ix2 (Fin.ext ?_) (Fin.ext ?_))))
    (congrArg w1 (congrArg (fun z => ix2 z _) (Fin.ext ?_)))
  all_goals
    dsimp only
    omega

/-- Both layers over the arguments. -/
theorem cmp_at (hx : ∀ s k, X (ix3 0 s k) = x (ix3 b s k)) (hp : ∀ l k, PE (ix3 v l k) = pe (ix2 l ⟨(k : ℕ) % 64, by omega⟩))
    (hw : ∀ l k F, W1 (ix4 v l k F) = if (k : ℕ) / 64 = (F : ℕ) / 256 then w1 (ix2 ⟨64 * (l : ℕ) + (k : ℕ) % 64, by omega⟩ ⟨(F : ℕ) % 256, by omega⟩) else 0)
    (hw2 : ∀ F c, W2 (ix3 v F c) = if (F : ℕ) / 256 = (c : ℕ) / 128 then w2 (ix2 ⟨(F : ℕ) % 256, by omega⟩ ⟨(c : ℕ) % 64, by omega⟩) else 0)
    (r : Fin 128) (c : Fin 256) : second (hidden (rowsOf X) (codeOf PE v) (weightsOf W1 v)) (secondOf W2 v) (ix2 r c)
      = cmpTok x pe w1 w2 b r ⟨(c : ℕ) / 128, by omega⟩ ⟨(c : ℕ) % 64, by omega⟩ := by
  rw [second_at]
  refine (half_sum (n := 256) _ _ ⟨(c : ℕ) / 128, by omega⟩ (fun d => w2 (ix2 d ⟨(c : ℕ) % 64, by omega⟩)) fun F => hw2 F c).trans ?_
  unfold cmpTok
  refine Finset.sum_congr rfl fun f _ => congrArg (gelu · * _) ?_
  refine (hidden_at X PE W1 v x pe w1 b hx hp hw r _).trans (congrArg₂ (hidTok x pe w1 b r) (Fin.ext ?_) (Fin.ext ?_))
  all_goals
    dsimp only
    omega

end Over

/-- A point's block over the arguments. -/
theorem point (c : Dev nD) (t : Fin cfg0.N) (r : Fin 128) (d : Fin 512) :
    out0_A_7 (F := Ideal) c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (iblk m c 0 t) (iblk m c 1 t) (iblk m c 2 t) (iblk m c 3 t) (iblk m c 4 t)
        (iblk m c 5 t) (iblk m c 6 t) (ix3 0 r d)
      = blockTok (Ka m c) (Va m c) (PKa m c) (W1Ka m c) (W2Ka m c) (PVa m c) (W1Va m c) (W2Va m c) (seq t) r d := by
  refine (block_at c t _ _ _ _ _ _ _ r (16 * r + 31) (cos_at m c t r) (sin_at m c t r) d).trans ?_
  unfold blockTok
  by_cases hd : (d : ℕ) < 256
  · rw [dif_pos hd, if_pos hd]
    refine congrArg (fun z => ropeAt z _ _) (funext fun j => ?_)
    refine (cmp_at (iblk m c 0 t) (iblk m c 2 t) (iblk m c 3 t) (iblk m c 4 t) 0 (Ka m c) (PKa m c) (W1Ka m c) (W2Ka m c) (seq t)
      (k_at m c t) (pe_at m c t 0) (w1_at m c t 0) (w2_at m c t 0) r _).trans ?_
    refine congrArg₂ (cmpTok _ _ _ _ _ _) (Fin.ext ?_) (Fin.ext ?_)
    all_goals
      dsimp only
      omega
  · rw [dif_neg hd, if_neg hd]
    refine (cmp_at (iblk m c 1 t) (iblk m c 2 t) (iblk m c 3 t) (iblk m c 4 t) 1 (Va m c) (PVa m c) (W1Va m c) (W2Va m c) (seq t)
      (v_at m c t) (pe_at m c t 1) (w1_at m c t 1) (w2_at m c t 1) r _).trans ?_
    refine congrArg₂ (cmpTok _ _ _ _ _ _) (Fin.ext ?_) (Fin.ext ?_)
    all_goals
      dsimp only
      omega

/-- The array after the run. -/
theorem final (c : Dev nD) : (dats m 0 c).arrAt 7 cfg0.N
    = blocks (Ka m c) (Va m c) (PKa m c) (W1Ka m c) (W2Ka m c) (PVa m c) (W1Va m c) (W2Va m c) := by
  refine (dats m 0 c).arrAt_eq_of_covers 7 _ (by decide +kernel) fun t _ y => ?_
  blk_simp
  rw [after0_7]
  unfold outsAt0
  idx_vars y
  have e0 : y0 = 0 := Fin.ext (by have := y0.isLt; omega)
  subst e0
  refine (point m c t _ _).trans ?_
  have hy : (((cfg0.win 7).blk t).view.emb (ix3 0 y1 y2) : S16x128x512.Idx) = ix3 (seq t) y1 y2 := by
    blk_ext [idx t, seq]
  exact (congrArg (blocks (Ka m c) (Va m c) (PKa m c) (W1Ka m c) (W2Ka m c) (PVa m c) (W1Va m c) (W2Va m c)) hy).symm

end Cert.CompressIdeal.Tok

end
-- ==== Proof.CompressReference.lean ====
/- The compression of the native sparse mixer's blocks in the reference, block by block. -/
module

public import proofs.«01_k».proof.Proof.Gen.CompressRefIdeal.Read
public import proofs.«01_k».proof.Proof.CompressLayer

@[expose] public section

set_option maxRecDepth 16384

noncomputable section

namespace Cert.CompressRefIdeal.Tok

open Cert.CompressRefIdeal Cert.CompressRefIdeal.Gen Cert.CompressRefIdeal.Read Idealize.ShloMosaic
open Cert.Mixer Cert.Cmp
open Cert.Ffn (gelu)

section One

variable (x : FVec Ideal S16x2048x128 .f32) (pe : FVec Ideal S32x64 .f32) (w1 : FVec Ideal S2048x256 .f32) (w2 : FVec Ideal S256x64 .f32)

/-- Token `l` of block `n`. -/
theorem tok_at (b : Fin 16) (n : Fin 128) (l : Fin 32) (g : Fin 2) (d : Fin 64) :
    val_main_v4 (F := Ideal) x (ix5 b n l g d) = x (ix3 b ⟨(16 * (n : ℕ) + l) % 2048, by omega⟩ ⟨64 * g + d, by omega⟩) := by
  pointwise [val_main_v0, val_main_v1, val_main_v2, val_main_v3, val_main_v4]
  repeat' split
  all_goals exact congrArg x (congrArg₂ (ix3 b) (Fin.ext (by dsimp only; omega)) (Fin.ext (by dsimp only; omega)))

/-- The first layer. -/
theorem hid_at (b : Fin 16) (n : Fin 128) (g : Fin 2) (f : Fin 256) : val_main_v10 (F := Ideal) x pe w1 (ix4 b n g f) = hidTok x pe w1 b n g f := by
  pointwise [val_main_v5, val_main_v6, val_main_v7, val_main_v8, val_main_v9, val_main_v10, tok_at]
  rfl

/-- Both layers. -/
theorem cmp_at (b : Fin 16) (n : Fin 128) (g : Fin 2) (j : Fin 64) : val_main_v24 (F := Ideal) x pe w1 w2 (ix4 b n g j) = cmpTok x pe w1 w2 b n g j := by
  pointwise [val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, hid_at]
  unfold cmpTok gelu
  refine Finset.sum_congr rfl fun f _ => congrArg (· * _) ?_
  rw [← mul_assoc, mul_comm (hidTok x pe w1 b n g f) (Ideal.ofBits .f32 0x3F000000#32)]

/-- A block's position as a 32-bit number. -/
theorem pos_eq (n : Fin 128) : IntOp.addi (IntOp.muli (BitVec.ofNat 32 n) 16#32) 31#32 = BitVec.ofNat 32 (16 * n + 31) := by
  revert n
  decide +kernel

/-- The keys turned. -/
theorem key_at (b : Fin 16) (n : Fin 128) (g : Fin 2) (j : Fin 64) : val_main_v62 (F := Ideal) x pe w1 w2 (ix4 b n g j)
    = ropeAt (cmpTok x pe w1 w2 b n g) (16 * n + 31) j := by
  have e : cmpTok x pe w1 w2 b n g = fun j => val_main_v24 (F := Ideal) x pe w1 w2 (ix4 b n g j) := funext fun j => (cmp_at x pe w1 w2 b n g j).symm
  rw [e]
  pointwise [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_c, val_main_c_3, val_main_cst_4, val_main_cst_5]
  rw [pos_eq]
  exact ropeAt_halves (fun j => val_main_v24 (F := Ideal) x pe w1 w2 (ix4 b n g j)) (16 * n + 31) j

end One

variable (k v : FVec Ideal S16x2048x128 .f32) (pk : FVec Ideal S32x64 .f32) (w1k : FVec Ideal S2048x256 .f32) (w2k : FVec Ideal S256x64 .f32)
  (pv : FVec Ideal S32x64 .f32) (w1v : FVec Ideal S2048x256 .f32) (w2v : FVec Ideal S256x64 .f32)

/-- The values go through the same steps as the keys. -/
theorem value_at (b : Fin 16) (n : Fin 128) (g : Fin 2) (j : Fin 64) : val_main_v87 (F := Ideal) v pv w1v w2v (ix4 b n g j) = cmpTok v pv w1v w2v b n g j :=
  cmp_at v pv w1v w2v b n g j

/-- The reference's result. -/
theorem v93_eq : val_main_v93 (F := Ideal) k v pk w1k w2k pv w1v w2v = blocks k v pk w1k w2k pv w1v w2v := by
  refine funext fun i => ?_
  idx_vars i
  unfold blocks blockTok
  pointwise [val_main_v88, val_main_v89, val_main_v90, val_main_v91, val_main_v92, val_main_v93, key_at, value_at]
  by_cases hd : (i2 : ℕ) < 256
  · rw [dif_pos hd, if_pos hd]
    split
    all_goals
      exact congrArg₂ (fun g j => ropeAt (cmpTok k pk w1k w2k i0 i1 g) (16 * (i1 : ℕ) + 31) j)
        (Fin.ext (by dsimp only; omega)) (Fin.ext (by dsimp only; omega))
  · rw [dif_neg hd, if_neg hd]
    split
    all_goals exact congrArg₂ (fun g j => cmpTok v pv w1v w2v i0 i1 g j) (Fin.ext (by dsimp only; omega)) (Fin.ext (by dsimp only; omega))

end Cert.CompressRefIdeal.Tok

end
-- ==== Proof.lean ====
/- The claim: both kernels and the reference run and leave their arguments; the idealized kernel's
   result is the reference's. The mathematics is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.DsaIn
public import proofs.«01_k».proof.Proof.Gen.DsaIn.Skeleton
public import proofs.«01_k».proof.Proof.Gen.DsaIn.Launch
public import proofs.«01_k».proof.Proof.Gen.DsaIn.Points
public import proofs.«01_k».proof.Proof.Gen.DsaIn.Frame
public import proofs.«01_k».proof.Proof.Gen.DsaInIdeal
public import proofs.«01_k».proof.Proof.Gen.DsaInIdeal.Skeleton
public import proofs.«01_k».proof.Proof.Gen.DsaInIdeal.Launch
public import proofs.«01_k».proof.Proof.Gen.DsaInIdeal.Points
public import proofs.«01_k».proof.Proof.Gen.DsaInIdeal.Frame
public import proofs.«01_k».proof.Proof.Gen.DsaInIdeal.Value
public import proofs.«01_k».proof.Proof.Gen.DsaInRefIdeal
public import proofs.«01_k».proof.Proof.Gen.DsaInRefIdeal.Run
public import proofs.«01_k».proof.Proof.Gen.DsaInRefIdeal.Read
public import proofs.«01_k».proof.Proof.Gen.NsaIn
public import proofs.«01_k».proof.Proof.Gen.NsaIn.Skeleton
public import proofs.«01_k».proof.Proof.Gen.NsaIn.Launch
public import proofs.«01_k».proof.Proof.Gen.NsaIn.Points
public import proofs.«01_k».proof.Proof.Gen.NsaIn.Frame
public import proofs.«01_k».proof.Proof.Gen.NsaInIdeal
public import proofs.«01_k».proof.Proof.Gen.NsaInIdeal.Skeleton
public import proofs.«01_k».proof.Proof.Gen.NsaInIdeal.Launch
public import proofs.«01_k».proof.Proof.Gen.NsaInIdeal.Points
public import proofs.«01_k».proof.Proof.Gen.NsaInIdeal.Frame
public import proofs.«01_k».proof.Proof.Gen.NsaInIdeal.Value
public import proofs.«01_k».proof.Proof.Gen.NsaInRefIdeal
public import proofs.«01_k».proof.Proof.Gen.NsaInRefIdeal.Run
public import proofs.«01_k».proof.Proof.Gen.NsaInRefIdeal.Read
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressRefIdeal
public import proofs.«01_k».proof.Proof.Gen.CompressRefIdeal.Run
public import proofs.«01_k».proof.Proof.Gen.CompressRefIdeal.Read
public import proofs.«01_k».proof.Proof.Result
public import proofs.«01_k».proof.Proof.Reference
public import proofs.«01_k».proof.Proof.OutResult
public import proofs.«01_k».proof.Proof.OutReference
public import proofs.«01_k».proof.Proof.DsaResult
public import proofs.«01_k».proof.Proof.DsaReference
public import proofs.«01_k».proof.Proof.NsaResult
public import proofs.«01_k».proof.Proof.NsaReference
public import proofs.«01_k».proof.Proof.CompressResult
public import proofs.«01_k».proof.Proof.CompressReference
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The idealized kernel's result array is the reference's. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    obtain ⟨h0, h1, h2, h3, h4, h5⟩ := hagree c
    refine (Cert.ReferenceIdeal.Read.val_main_v73_eq m' c).trans ?_
    rw [Cert.KernelIdeal.Ffn.final m c, h0, h1, h2, h3, h4, h5]
    exact funext fun i => Cert.ReferenceIdeal.Ffn.v73_at _ _ _ _ _ _ i

/-- The reference runs and leaves its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The output projection's result array is its reference's. -/
theorem algebraic_out : Cert.algebraic_OutIdeal_OutRefIdeal (hOutIdeal := Cert.OutIdeal.Gen.facts)
    (hOutRefIdeal := Cert.OutRefIdeal.Gen.facts) := by
  pair_intro
  · run_from Cert.OutIdeal.Value.run_blocks m g
  · run_from Cert.OutRefIdeal.Value.run m' g'
    obtain ⟨h0, h1, h2, h3⟩ := hagree c
    refine (Cert.OutRefIdeal.Read.val_main_v18_eq _ _ _ _).trans ?_
    rw [Cert.OutIdeal.Tok.final m c]
    exact funext fun i => Cert.OutRefIdeal.Tok.v18_at _ _ _ _ i

theorem frame_outReference : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

/-- The sparse mixer's input projection: its five arrays are its reference's. -/
theorem algebraic_dsa : Cert.algebraic_DsaInIdeal_DsaInRefIdeal (hDsaInIdeal := Cert.DsaInIdeal.Gen.facts)
    (hDsaInRefIdeal := Cert.DsaInRefIdeal.Gen.facts) := by
  pair_intro
  · run_from Cert.DsaInIdeal.Value.run_blocks m g
  · run_from Cert.DsaInRefIdeal.Value.run m' g'
    · obtain ⟨h0, h1, h2, h3, h4, h5⟩ := hagree c
      refine (Cert.DsaInRefIdeal.Read.val_main_v177_eq (StableHlo.launchContents m' c)).trans ?_
      refine Eq.trans ?_ (Cert.DsaInIdeal.Tok.final7 m c).symm
      refine (Cert.DsaInRefIdeal.Tok.v177_eq _ _ _).trans ?_
      simp only [StableHlo.launchContents]
      rw [h0, h1, h2]
    · obtain ⟨h0, h1, h2, h3, h4, h5⟩ := hagree c
      refine (Cert.DsaInRefIdeal.Read.val_main_v179_eq (StableHlo.launchContents m' c)).trans ?_
      refine Eq.trans ?_ (Cert.DsaInIdeal.Tok.final8 m c).symm
      refine (Cert.DsaInRefIdeal.Tok.v179_eq _ _ _ _ _ _).trans ?_
      simp only [StableHlo.launchContents]
      rw [h0, h1, h2, h3, h4, h5]
    · obtain ⟨h0, h1, h2, h3, h4, h5⟩ := hagree c
      refine (Cert.DsaInRefIdeal.Read.val_main_v181_eq (StableHlo.launchContents m' c)).trans ?_
      refine Eq.trans ?_ (Cert.DsaInIdeal.Tok.final9 m c).symm
      refine (Cert.DsaInRefIdeal.Tok.v181_eq _ _ _).trans ?_
      simp only [StableHlo.launchContents]
      rw [h0, h1, h2]
    · obtain ⟨h0, h1, h2, h3, h4, h5⟩ := hagree c
      refine (Cert.DsaInRefIdeal.Read.val_main_v183_eq (StableHlo.launchContents m' c)).trans ?_
      refine Eq.trans ?_ (Cert.DsaInIdeal.Tok.final10 m c).symm
      refine (Cert.DsaInRefIdeal.Tok.v183_eq _ _ _).trans ?_
      simp only [StableHlo.launchContents]
      rw [h0, h1, h2]
    · obtain ⟨h0, h1, h2, h3, h4, h5⟩ := hagree c
      refine (Cert.DsaInRefIdeal.Read.val_main_v184_eq (StableHlo.launchContents m' c)).trans ?_
      refine Eq.trans ?_ (Cert.DsaInIdeal.Tok.final11 m c).symm
      refine (Cert.DsaInRefIdeal.Tok.v184_eq _ _ _).trans ?_
      simp only [StableHlo.launchContents]
      rw [h0, h1, h2]

theorem frame_dsaReference : Cert.quiescent_DsaInRefIdeal (hDsaInRefIdeal := Cert.DsaInRefIdeal.Gen.facts) := fun m ρ _ =>
  (θ_run Cert.DsaInRefIdeal.defs _ _).mono (fun r h => ⟨fun c => (h c).2.2.2.2.2, sem_eq_zero_of_no_sems (by decide) r.2⟩)
    (Cert.DsaInRefIdeal.Value.run (F := Ideal) m ρ)

/-- The native sparse mixer's input projection: its five arrays are its reference's. -/
theorem algebraic_nsa : Cert.algebraic_NsaInIdeal_NsaInRefIdeal (hNsaInIdeal := Cert.NsaInIdeal.Gen.facts)
    (hNsaInRefIdeal := Cert.NsaInRefIdeal.Gen.facts) := by
  pair_intro
  · run_from Cert.NsaInIdeal.Value.run_blocks m g
  · run_from Cert.NsaInRefIdeal.Value.run m' g'
    · obtain ⟨h0, h1, h2⟩ := hagree c
      refine (Cert.NsaInRefIdeal.Read.val_main_v144_eq m' c).trans ?_
      refine Eq.trans ?_ (Cert.NsaInIdeal.Tok.final5 m c).symm
      refine (Cert.NsaInRefIdeal.Tok.v144_eq _ _ _).trans ?_
      rw [h0, h1, h2]
    · obtain ⟨h0, h1, h2⟩ := hagree c
      refine (Cert.NsaInRefIdeal.Read.val_main_v146_eq m' c).trans ?_
      refine Eq.trans ?_ (Cert.NsaInIdeal.Tok.final6 m c).symm
      refine (Cert.NsaInRefIdeal.Tok.v146_eq _ _ _).trans ?_
      rw [h0, h1, h2]
    · obtain ⟨h0, h1, h2⟩ := hagree c
      refine (Cert.NsaInRefIdeal.Read.val_main_v147_eq _ _ _).trans ?_
      refine Eq.trans ?_ (Cert.NsaInIdeal.Tok.final7 m c).symm
      refine (Cert.NsaInRefIdeal.Tok.v147_eq _ _ _).trans ?_
      simp only [StableHlo.launchContents]
    · obtain ⟨h0, h1, h2⟩ := hagree c
      refine (Cert.NsaInRefIdeal.Read.val_main_v148_eq _ _ _).trans ?_
      refine Eq.trans ?_ (Cert.NsaInIdeal.Tok.final8 m c).symm
      refine (Cert.NsaInRefIdeal.Tok.v148_eq _ _ _).trans ?_
      simp only [StableHlo.launchContents]
    · obtain ⟨h0, h1, h2⟩ := hagree c
      refine (Cert.NsaInRefIdeal.Read.val_main_v149_eq m' c).trans ?_
      refine Eq.trans ?_ (Cert.NsaInIdeal.Tok.final9 m c).symm
      refine (Cert.NsaInRefIdeal.Tok.v149_eq _ _ _).trans ?_
      rw [h0, h1, h2]

theorem frame_nsaReference : Cert.quiescent_NsaInRefIdeal (hNsaInRefIdeal := Cert.NsaInRefIdeal.Gen.facts) := fun m ρ _ =>
  (θ_run Cert.NsaInRefIdeal.defs _ _).mono (fun r h => ⟨fun c => (h c).2.2.2.2.2, sem_eq_zero_of_no_sems (by decide) r.2⟩)
    (Cert.NsaInRefIdeal.Value.run (F := Ideal) m ρ)

/-- The compression's result array is its reference's. -/
theorem algebraic_cmp : Cert.algebraic_CompressIdeal_CompressRefIdeal (hCompressIdeal := Cert.CompressIdeal.Gen.facts)
    (hCompressRefIdeal := Cert.CompressRefIdeal.Gen.facts) := by
  pair_intro
  · run_from Cert.CompressIdeal.Value.run_blocks m g
  · run_from Cert.CompressRefIdeal.Value.run m' g'
    obtain ⟨h0, h1, h2, h3, h4, h5, h6, h7⟩ := hagree c
    refine (Cert.CompressRefIdeal.Read.val_main_v93_eq m' c).trans ?_
    refine Eq.trans ?_ (Cert.CompressIdeal.Tok.final m c).symm
    refine (Cert.CompressRefIdeal.Tok.v93_eq _ _ _ _ _ _ _ _).trans ?_
    rw [h0, h1, h2, h3, h4, h5, h6, h7]

theorem frame_cmpReference : Cert.quiescent_CompressRefIdeal (hCompressRefIdeal := Cert.CompressRefIdeal.Gen.facts) := fun m ρ _ =>
  (θ_run Cert.CompressRefIdeal.defs _ _).mono (fun r h => ⟨fun c => (h c).2, sem_eq_zero_of_no_sems (by decide) r.2⟩)
    (Cert.CompressRefIdeal.Value.run (F := Ideal) m ρ)

theorem claim : Cert.Claim := ⟨Cert.Kernel.Gen.facts, Cert.KernelIdeal.Gen.facts, Cert.ReferenceIdeal.Gen.facts,
  Cert.Out.Gen.facts, Cert.OutIdeal.Gen.facts, Cert.OutRefIdeal.Gen.facts,
  Cert.DsaIn.Gen.facts, Cert.DsaInIdeal.Gen.facts, Cert.DsaInRefIdeal.Gen.facts,
  Cert.NsaIn.Gen.facts, Cert.NsaInIdeal.Gen.facts, Cert.NsaInRefIdeal.Gen.facts,
  Cert.Compress.Gen.facts, Cert.CompressIdeal.Gen.facts, Cert.CompressRefIdeal.Gen.facts,
  fun m ρ _ => Cert.Kernel.Gen.frame m ρ, fun m ρ _ => Cert.KernelIdeal.Gen.frame m ρ, frame_reference,
  fun m ρ _ => Cert.Out.Gen.frame m ρ, fun m ρ _ => Cert.OutIdeal.Gen.frame m ρ, frame_outReference,
  fun m ρ _ => Cert.DsaIn.Gen.frame m ρ, fun m ρ _ => Cert.DsaInIdeal.Gen.frame m ρ, frame_dsaReference,
  fun m ρ _ => Cert.NsaIn.Gen.frame m ρ, fun m ρ _ => Cert.NsaInIdeal.Gen.frame m ρ, frame_nsaReference,
  fun m ρ _ => Cert.Compress.Gen.frame m ρ, fun m ρ _ => Cert.CompressIdeal.Gen.frame m ρ, frame_cmpReference,
  trivial, algebraic,
  trivial, algebraic_out,
  trivial, algebraic_dsa,
  trivial, algebraic_nsa,
  trivial, algebraic_cmp⟩

end Cert.Proof

end
